-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_normal_scales [hPre_normal_scales : Cert.Pre_normal_scales.Facts] (m : (ℓ : Loc Cert.KernelIdeal.nD Cert.KernelIdeal.τ Cert.KernelIdeal.sig) → Buf (Elt Ideal) ℓ) : Prop :=
  ∀ c : Dev Cert.KernelIdeal.nD,
    (Cert.Pre_normal_scales.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_normal_scales [hPre_normal_scales : Cert.Pre_normal_scales.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_normal_scales.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_normal_scales [hKernelIdeal : Cert.KernelIdeal.Facts] [hPre_normal_scales : Cert.Pre_normal_scales.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_normal_scales m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_normal_scales [hReferenceIdeal : Cert.ReferenceIdeal.Facts] [hPre_normal_scales : Cert.Pre_normal_scales.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_normal_scales m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  IdealRules.named_const.Statement Cert.KernelIdeal.κ "log2e" .f32 0x3FB8AA3B#32 (((Real.log 2)⁻¹ : ℝ) : EReal)

def algebraic_KernelIdeal_ReferenceIdeal_pre_normal_scales [hKernelIdeal : Cert.KernelIdeal.Facts] [hReferenceIdeal : Cert.ReferenceIdeal.Facts] [hPre_normal_scales : Cert.Pre_normal_scales.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_normal_scales m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_normal_scales : Cert.Pre_normal_scales.Facts),
    quiescent_Kernel (hKernel := hKernel)
    ∧ quiescent_KernelIdeal (hKernelIdeal := hKernelIdeal)
    ∧ quiescent_KernelIdeal_pre_normal_scales (hKernelIdeal := hKernelIdeal) (hPre_normal_scales := hPre_normal_scales)
    ∧ quiescent_ReferenceIdeal (hReferenceIdeal := hReferenceIdeal)
    ∧ quiescent_ReferenceIdeal_pre_normal_scales (hReferenceIdeal := hReferenceIdeal) (hPre_normal_scales := hPre_normal_scales)
    ∧ preserves_Kernel_KernelIdeal
    ∧ algebraic_KernelIdeal_ReferenceIdeal_pre_normal_scales (hKernelIdeal := hKernelIdeal) (hReferenceIdeal := hReferenceIdeal) (hPre_normal_scales := hPre_normal_scales)
-- ==== Pre_normal_scales.lean ====
abbrev S3x640x14x128 : Shape := ⟨4, ![3, 640, 14, 128]⟩
abbrev S3x640x14x4 : Shape := ⟨4, ![3, 640, 14, 4]⟩
abbrev S3x640x2x128 : Shape := ⟨4, ![3, 640, 2, 128]⟩
abbrev S3x640x2x4 : Shape := ⟨4, ![3, 640, 2, 4]⟩
abbrev S3x20x2x128 : Shape := ⟨4, ![3, 20, 2, 128]⟩
abbrev S3x640 : Shape := ⟨2, ![3, 640]⟩
abbrev S_ : Shape := ⟨0, ![]⟩

class Facts : Prop where
  bcast_S_S3x640x14x4 : S_.BroadcastsInDim S3x640x14x4 (![] : Fin 0 → Fin S3x640x14x4.rank)
  reducesTo_S3x640x14x4_S_d0_1_2_3 : S3x640x14x4.ReducesTo [0, 1, 2, 3] S_
  h_S_ : 0 < S_.numel
  bcast_S_S3x640x2x4 : S_.BroadcastsInDim S3x640x2x4 (![] : Fin 0 → Fin S3x640x2x4.rank)
  reducesTo_S3x640x2x4_S_d0_1_2_3 : S3x640x2x4.ReducesTo [0, 1, 2, 3] S_
  bcast_S_S3x20x2x128 : S_.BroadcastsInDim S3x20x2x128 (![] : Fin 0 → Fin S3x20x2x128.rank)
  reducesTo_S3x20x2x128_S_d0_1_2_3 : S3x20x2x128.ReducesTo [0, 1, 2, 3] S_

variable [Facts]

def fn_part1 {F : FTy → Type} [FloatOps F] (main_arg5 : IVec S3x20x2x128 8) (main_v12 : IVec S_ 1) (main_v14 : IVec S3x20x2x128 1) (main_v15 : IVec S3x20x2x128 8) : IVec S_ 1 :=
  let main_v16 : IVec S3x20x2x128 1 := cmpi .ule main_arg5 main_v15
  let main_v17 : IVec S3x20x2x128 1 := andi main_v14 main_v16
  let main_c_7 : IVec S_ 1 := constantI S_ 1 1#1
  let main_v18 : IVec S_ 1 := (fun x v => Host.reduce IntOp.andi x v reducesTo_S3x20x2x128_S_d0_1_2_3 h_S_) main_v17 main_c_7
  let main_v19 : IVec S_ 1 := andi main_v12 main_v18
  main_v19

def fn {F : FTy → Type} [FloatOps F] (main_arg0 : FVec F S3x640x14x128 .fp8e4m3) (main_arg1 : IVec S3x640x14x4 8) (main_arg2 : FVec F S3x640x2x128 .fp8e4m3) (main_arg3 : IVec S3x640x2x4 8) (main_arg4 : FVec F S3x640x2x128 .fp8e4m3) (main_arg5 : IVec S3x20x2x128 8) (main_arg6 : IVec S3x640 32) : IVec S_ 1 :=
  let main_c : IVec S_ 8 := constantI S_ 8 1#8
  let main_v0 : IVec S3x640x14x4 8 := broadcastInDim S3x640x14x4 ![] bcast_S_S3x640x14x4 main_c
  let main_v1 : IVec S3x640x14x4 1 := cmpi .uge main_arg1 main_v0
  let main_c_0 : IVec S_ 8 := constantI S_ 8 254#8
  let main_v2 : IVec S3x640x14x4 8 := broadcastInDim S3x640x14x4 ![] bcast_S_S3x640x14x4 main_c_0
  let main_v3 : IVec S3x640x14x4 1 := cmpi .ule main_arg1 main_v2
  let main_v4 : IVec S3x640x14x4 1 := andi main_v1 main_v3
  let main_c_1 : IVec S_ 1 := constantI S_ 1 1#1
  let main_v5 : IVec S_ 1 := (fun x v => Host.reduce IntOp.andi x v reducesTo_S3x640x14x4_S_d0_1_2_3 h_S_) main_v4 main_c_1
  let main_c_2 : IVec S_ 8 := constantI S_ 8 1#8
  let main_v6 : IVec S3x640x2x4 8 := broadcastInDim S3x640x2x4 ![] bcast_S_S3x640x2x4 main_c_2
  let main_v7 : IVec S3x640x2x4 1 := cmpi .uge main_arg3 main_v6
  let main_c_3 : IVec S_ 8 := constantI S_ 8 254#8
  let main_v8 : IVec S3x640x2x4 8 := broadcastInDim S3x640x2x4 ![] bcast_S_S3x640x2x4 main_c_3
  let main_v9 : IVec S3x640x2x4 1 := cmpi .ule main_arg3 main_v8
  let main_v10 : IVec S3x640x2x4 1 := andi main_v7 main_v9
  let main_c_4 : IVec S_ 1 := constantI S_ 1 1#1
  let main_v11 : IVec S_ 1 := (fun x v => Host.reduce IntOp.andi x v reducesTo_S3x640x2x4_S_d0_1_2_3 h_S_) main_v10 main_c_4
  let main_v12 : IVec S_ 1 := andi main_v5 main_v11
  let main_c_5 : IVec S_ 8 := constantI S_ 8 1#8
  let main_v13 : IVec S3x20x2x128 8 := broadcastInDim S3x20x2x128 ![] bcast_S_S3x20x2x128 main_c_5
  let main_v14 : IVec S3x20x2x128 1 := cmpi .uge main_arg5 main_v13
  let main_c_6 : IVec S_ 8 := constantI S_ 8 254#8
  let main_v15 : IVec S3x20x2x128 8 := broadcastInDim S3x20x2x128 ![] bcast_S_S3x20x2x128 main_c_6
  fn_part1 (F := F) main_arg5 main_v12 main_v14 main_v15
-- ==== Kernel.lean ====
abbrev S3x640x14x128 : Shape := ⟨4, ![3, 640, 14, 128]⟩
abbrev S3x640x14x4 : Shape := ⟨4, ![3, 640, 14, 4]⟩
abbrev S3x640x2x128 : Shape := ⟨4, ![3, 640, 2, 128]⟩
abbrev S3x640x2x4 : Shape := ⟨4, ![3, 640, 2, 4]⟩
abbrev S3x20x2x128 : Shape := ⟨4, ![3, 20, 2, 128]⟩
abbrev S3x640 : Shape := ⟨2, ![3, 640]⟩
abbrev S3x14x640x128 : Shape := ⟨4, ![3, 14, 640, 128]⟩
abbrev S3x14x4x640 : Shape := ⟨4, ![3, 14, 4, 640]⟩
abbrev S3x2x640x128 : Shape := ⟨4, ![3, 2, 640, 128]⟩
abbrev S3x2x4x640 : Shape := ⟨4, ![3, 2, 4, 640]⟩
abbrev S3x2x20x128 : Shape := ⟨4, ![3, 2, 20, 128]⟩
abbrev S3x1x640 : Shape := ⟨3, ![3, 1, 640]⟩
abbrev S3x640x1 : Shape := ⟨3, ![3, 640, 1]⟩
abbrev S3x640x1792 : Shape := ⟨3, ![3, 640, 1792]⟩
abbrev S1x1x640x128 : Shape := ⟨4, ![1, 1, 640, 128]⟩
abbrev S1x1x4x640 : Shape := ⟨4, ![1, 1, 4, 640]⟩
abbrev S1x1x20x128 : Shape := ⟨4, ![1, 1, 20, 128]⟩
abbrev S1x1x640 : Shape := ⟨3, ![1, 1, 640]⟩
abbrev S1x640x1 : Shape := ⟨3, ![1, 640, 1]⟩
abbrev S1x640x128 : Shape := ⟨3, ![1, 640, 128]⟩
abbrev S640x128 : Shape := ⟨2, ![640, 128]⟩
abbrev S128x640 : Shape := ⟨2, ![128, 640]⟩
abbrev S4x640 : Shape := ⟨2, ![4, 640]⟩
abbrev S1x640 : Shape := ⟨2, ![1, 640]⟩
abbrev S32x640 : Shape := ⟨2, ![32, 640]⟩
abbrev S20x128 : Shape := ⟨2, ![20, 128]⟩
abbrev S1x128 : Shape := ⟨2, ![1, 128]⟩
abbrev S32x128 : Shape := ⟨2, ![32, 128]⟩
abbrev S640x640 : Shape := ⟨2, ![640, 640]⟩
abbrev S640x1 : Shape := ⟨2, ![640, 1]⟩
abbrev S640 : Shape := ⟨1, ![640]⟩
abbrev S20x32x640 : Shape := ⟨3, ![20, 32, 640]⟩
abbrev S20x640 : Shape := ⟨2, ![20, 640]⟩
abbrev S20x1x640 : Shape := ⟨3, ![20, 1, 640]⟩

abbrev nBuf : Space → Nat
  | .hbm => 16
  | .vmem => 18
  | .smem => 0
  | _ => 0

abbrev bufTy : (tb : Table) → Fin (tcTables nBuf tb) → BufTy
  | .hbm, ⟨0, _⟩ => ⟨S3x640x14x128, .fp8e4m3⟩
  | .hbm, ⟨1, _⟩ => ⟨S3x640x14x4, .i8⟩
  | .hbm, ⟨2, _⟩ => ⟨S3x640x2x128, .fp8e4m3⟩
  | .hbm, ⟨3, _⟩ => ⟨S3x640x2x4, .i8⟩
  | .hbm, ⟨4, _⟩ => ⟨S3x640x2x128, .fp8e4m3⟩
  | .hbm, ⟨5, _⟩ => ⟨S3x20x2x128, .i8⟩
  | .hbm, ⟨6, _⟩ => ⟨S3x640, .i32⟩
  | .hbm, ⟨7, _⟩ => ⟨S3x14x640x128, .fp8e4m3⟩
  | .hbm, ⟨8, _⟩ => ⟨S3x14x4x640, .i8⟩
  | .hbm, ⟨9, _⟩ => ⟨S3x2x640x128, .fp8e4m3⟩
  | .hbm, ⟨10, _⟩ => ⟨S3x2x4x640, .i8⟩
  | .hbm, ⟨11, _⟩ => ⟨S3x2x640x128, .fp8e4m3⟩
  | .hbm, ⟨12, _⟩ => ⟨S3x2x20x128, .i8⟩
  | .hbm, ⟨13, _⟩ => ⟨S3x1x640, .i32⟩
  | .hbm, ⟨14, _⟩ => ⟨S3x640x1, .i32⟩
  | .hbm, ⟨15, _⟩ => ⟨S3x640x1792, .bf16⟩
  | .local _ .vmem, ⟨0, _⟩ => ⟨S1x1x640x128, .fp8e4m3⟩
  | .local _ .vmem, ⟨1, _⟩ => ⟨S1x1x640x128, .fp8e4m3⟩
  | .local _ .vmem, ⟨2, _⟩ => ⟨S1x1x4x640, .i8⟩
  | .local _ .vmem, ⟨3, _⟩ => ⟨S1x1x4x640, .i8⟩
  | .local _ .vmem, ⟨4, _⟩ => ⟨S1x1x640x128, .fp8e4m3⟩
  | .local _ .vmem, ⟨5, _⟩ => ⟨S1x1x640x128, .fp8e4m3⟩
  | .local _ .vmem, ⟨6, _⟩ => ⟨S1x1x4x640, .i8⟩
  | .local _ .vmem, ⟨7, _⟩ => ⟨S1x1x4x640, .i8⟩
  | .local _ .vmem, ⟨8, _⟩ => ⟨S1x1x640x128, .fp8e4m3⟩
  | .local _ .vmem, ⟨9, _⟩ => ⟨S1x1x640x128, .fp8e4m3⟩
  | .local _ .vmem, ⟨10, _⟩ => ⟨S1x1x20x128, .i8⟩
  | .local _ .vmem, ⟨11, _⟩ => ⟨S1x1x20x128, .i8⟩
  | .local _ .vmem, ⟨12, _⟩ => ⟨S1x1x640, .i32⟩
  | .local _ .vmem, ⟨13, _⟩ => ⟨S1x1x640, .i32⟩
  | .local _ .vmem, ⟨14, _⟩ => ⟨S1x640x1, .i32⟩
  | .local _ .vmem, ⟨15, _⟩ => ⟨S1x640x1, .i32⟩
  | .local _ .vmem, ⟨16, _⟩ => ⟨S1x640x128, .bf16⟩
  | .local _ .vmem, ⟨17, _⟩ => ⟨S1x640x128, .bf16⟩
  | _, _ => ⟨S3x640x14x128, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![3, 14], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c7_i32 : BitVec 32 := 7#32
  let v0 : BitVec 32 := Scalar.divsi arg1 c7_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c7_i32 c0_i32_1
  let v7 : BitVec 32 := Scalar.extui v6
  let c0_i32_2 : BitVec 32 := 0#32
  let v8 : BitVec 1 := Scalar.cmpi .slt c7_i32 c0_i32_2
  let v9 : BitVec 32 := Scalar.extui v8
  let v10 : BitVec 32 := Scalar.subi v7 v9
  let v11 : BitVec 1 := Scalar.cmpi .ne v5 v10
  let v12 : BitVec 32 := Scalar.remsi arg1 c7_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![arg0.toNat, v16.toNat, c0_i32_4.toNat, c0_i32_5.toNat]

def cc0_transform_3 (i : grid0.Coords) : Fin 4 → Nat :=
  let arg0 : BitVec 32 := BitVec.ofNat 32 (i 0).val
  let arg1 : BitVec 32 := BitVec.ofNat 32 (i 1).val
  let c7_i32 : BitVec 32 := 7#32
  let v0 : BitVec 32 := Scalar.divsi arg1 c7_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c7_i32 c0_i32_1
  let v7 : BitVec 32 := Scalar.extui v6
  let c0_i32_2 : BitVec 32 := 0#32
  let v8 : BitVec 1 := Scalar.cmpi .slt c7_i32 c0_i32_2
  let v9 : BitVec 32 := Scalar.extui v8
  let v10 : BitVec 32 := Scalar.subi v7 v9
  let v11 : BitVec 1 := Scalar.cmpi .ne v5 v10
  let v12 : BitVec 32 := Scalar.remsi arg1 c7_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![arg0.toNat, v16.toNat, c0_i32_4.toNat, c0_i32_5.toNat]

def cc0_transform_4 (i : grid0.Coords) : Fin 4 → Nat :=
  let arg0 : BitVec 32 := BitVec.ofNat 32 (i 0).val
  let arg1 : BitVec 32 := BitVec.ofNat 32 (i 1).val
  let c7_i32 : BitVec 32 := 7#32
  let v0 : BitVec 32 := Scalar.divsi arg1 c7_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c7_i32 c0_i32_1
  let v7 : BitVec 32 := Scalar.extui v6
  let c0_i32_2 : BitVec 32 := 0#32
  let v8 : BitVec 1 := Scalar.cmpi .slt c7_i32 c0_i32_2
  let v9 : BitVec 32 := Scalar.extui v8
  let v10 : BitVec 32 := Scalar.subi v7 v9
  let v11 : BitVec 1 := Scalar.cmpi .ne v5 v10
  let v12 : BitVec 32 := Scalar.remsi arg1 c7_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![arg0.toNat, v16.toNat, c0_i32_4.toNat, c0_i32_5.toNat]

def cc0_transform_5 (i : grid0.Coords) : Fin 4 → Nat :=
  let arg0 : BitVec 32 := BitVec.ofNat 32 (i 0).val
  let arg1 : BitVec 32 := BitVec.ofNat 32 (i 1).val
  let c7_i32 : BitVec 32 := 7#32
  let v0 : BitVec 32 := Scalar.divsi arg1 c7_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c7_i32 c0_i32_1
  let v7 : BitVec 32 := Scalar.extui v6
  let c0_i32_2 : BitVec 32 := 0#32
  let v8 : BitVec 1 := Scalar.cmpi .slt c7_i32 c0_i32_2
  let v9 : BitVec 32 := Scalar.extui v8
  let v10 : BitVec 32 := Scalar.subi v7 v9
  let v11 : BitVec 1 := Scalar.cmpi .ne v5 v10
  let v12 : BitVec 32 := Scalar.remsi arg1 c7_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![arg0.toNat, v16.toNat, c0_i32_4.toNat, c0_i32_5.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x1x640x128 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x4x640 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x640x128 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x4x640 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x640x128 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x20x128 .i8 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1x640 .i32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x640x1 .i32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x640x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== KernelIdeal.lean ====
variable {F : FTy → Type} [FloatOps F] [Named F]
def κ : String → Option EReal := fun
  | "log2e" => some (((Real.log 2)⁻¹ : ℝ) : EReal)
  | _ => none
-- ==== ReferenceIdeal.lean ====
abbrev S3x640x14x128 : Shape := ⟨4, ![3, 640, 14, 128]⟩
abbrev S3x640x14x4 : Shape := ⟨4, ![3, 640, 14, 4]⟩
abbrev S3x640x2x128 : Shape := ⟨4, ![3, 640, 2, 128]⟩
abbrev S3x640x2x4 : Shape := ⟨4, ![3, 640, 2, 4]⟩
abbrev S3x20x2x128 : Shape := ⟨4, ![3, 20, 2, 128]⟩
abbrev S3x640 : Shape := ⟨2, ![3, 640]⟩
abbrev S3x14x640x128 : Shape := ⟨4, ![3, 14, 640, 128]⟩
abbrev S3x14x640x4 : Shape := ⟨4, ![3, 14, 640, 4]⟩
abbrev S3x14x640x4x32 : Shape := ⟨5, ![3, 14, 640, 4, 32]⟩
abbrev S3x2x640x128 : Shape := ⟨4, ![3, 2, 640, 128]⟩
abbrev S3x2x640x4 : Shape := ⟨4, ![3, 2, 640, 4]⟩
abbrev S3x2x640x4x32 : Shape := ⟨5, ![3, 2, 640, 4, 32]⟩
abbrev S3x2x20x128 : Shape := ⟨4, ![3, 2, 20, 128]⟩
abbrev S3x2x20x32x128 : Shape := ⟨5, ![3, 2, 20, 32, 128]⟩
abbrev S3x1x640x1 : Shape := ⟨4, ![3, 1, 640, 1]⟩
abbrev S3x1x1x640 : Shape := ⟨4, ![3, 1, 1, 640]⟩
abbrev S3x640x1792 : Shape := ⟨3, ![3, 640, 1792]⟩
abbrev S6x4480x128 : Shape := ⟨3, ![6, 4480, 128]⟩
abbrev S6x640x128 : Shape := ⟨3, ![6, 640, 128]⟩
abbrev S6x4480x640 : Shape := ⟨3, ![6, 4480, 640]⟩
abbrev S3x14x640x640 : Shape := ⟨4, ![3, 14, 640, 640]⟩
abbrev S3x1x640x640 : Shape := ⟨4, ![3, 1, 640, 640]⟩
abbrev S3x14x640 : Shape := ⟨3, ![3, 14, 640]⟩
abbrev S3x14x640x1 : Shape := ⟨4, ![3, 14, 640, 1]⟩
abbrev S3x14x640x20x32 : Shape := ⟨5, ![3, 14, 640, 20, 32]⟩
abbrev S3x14x640x20 : Shape := ⟨4, ![3, 14, 640, 20]⟩
abbrev S3x14x640x20x1 : Shape := ⟨5, ![3, 14, 640, 20, 1]⟩

abbrev nBuf : Space → Nat
  | .hbm => 22
  | .vmem => 9
  | .smem => 0
  | _ => 0

abbrev bufTy : (tb : Table) → Fin (tcTables nBuf tb) → BufTy
  | .hbm, ⟨0, _⟩ => ⟨S3x640x14x128, .fp8e4m3⟩
  | .hbm, ⟨1, _⟩ => ⟨S3x640x14x4, .i8⟩
  | .hbm, ⟨2, _⟩ => ⟨S3x640x2x128, .fp8e4m3⟩
  | .hbm, ⟨3, _⟩ => ⟨S3x640x2x4, .i8⟩
  | .hbm, ⟨4, _⟩ => ⟨S3x640x2x128, .fp8e4m3⟩
  | .hbm, ⟨5, _⟩ => ⟨S3x20x2x128, .i8⟩
  | .hbm, ⟨6, _⟩ => ⟨S3x640, .i32⟩
  | .hbm, ⟨7, _⟩ => ⟨S3x14x640x128, .fp8e4m3⟩
  | .hbm, ⟨8, _⟩ => ⟨S3x14x640x4, .i8⟩
  | .hbm, ⟨9, _⟩ => ⟨S3x14x640x4x32, .i8⟩
  | .hbm, ⟨10, _⟩ => ⟨S3x14x640x128, .i8⟩
  | .hbm, ⟨11, _⟩ => ⟨S3x2x640x128, .fp8e4m3⟩
  | .hbm, ⟨12, _⟩ => ⟨S3x2x640x4, .i8⟩
  | .hbm, ⟨13, _⟩ => ⟨S3x2x640x4x32, .i8⟩
  | .hbm, ⟨14, _⟩ => ⟨S3x2x640x128, .i8⟩
  | .hbm, ⟨15, _⟩ => ⟨S3x2x640x128, .fp8e4m3⟩
  | .hbm, ⟨16, _⟩ => ⟨S3x2x20x128, .i8⟩
  | .hbm, ⟨17, _⟩ => ⟨S3x2x20x32x128, .i8⟩
  | .hbm, ⟨18, _⟩ => ⟨S3x2x640x128, .i8⟩
  | .hbm, ⟨19, _⟩ => ⟨S3x1x640x1, .i32⟩
  | .hbm, ⟨20, _⟩ => ⟨S3x1x1x640, .i32⟩
  | .hbm, ⟨21, _⟩ => ⟨S3x640x1792, .bf16⟩
  | .local _ .vmem, ⟨0, _⟩ => ⟨S3x14x640x128, .fp8e4m3⟩
  | .local _ .vmem, ⟨1, _⟩ => ⟨S3x14x640x128, .i8⟩
  | .local _ .vmem, ⟨2, _⟩ => ⟨S3x2x640x128, .fp8e4m3⟩
  | .local _ .vmem, ⟨3, _⟩ => ⟨S3x2x640x128, .i8⟩
  | .local _ .vmem, ⟨4, _⟩ => ⟨S3x2x640x128, .fp8e4m3⟩
  | .local _ .vmem, ⟨5, _⟩ => ⟨S3x2x640x128, .i8⟩
  | .local _ .vmem, ⟨6, _⟩ => ⟨S3x1x640x1, .i32⟩
  | .local _ .vmem, ⟨7, _⟩ => ⟨S3x1x1x640, .i32⟩
  | .local _ .vmem, ⟨8, _⟩ => ⟨S3x640x1792, .bf16⟩
  | _, _ => ⟨S3x640x14x128, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F] [Named F]

def κ : String → Option EReal := fun
  | "log2e" => some (((Real.log 2)⁻¹ : ℝ) : EReal)
  | _ => none

abbrev grid0 : Pipeline.Grid := .none

abbrev stage0_0 : Fin 1 → Memref sig .tc .vmem S3x14x640x128 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S3x14x640x128 .i8 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S3x2x640x128 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S3x2x640x128 .i8 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S3x2x640x128 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S3x2x640x128 .i8 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S3x1x640x1 .i32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S3x1x1x640 .i32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S3x640x1792 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
-- ==== Proof.Scalars.lean ====
/- The scalar facts over the extended reals on which the two programs' agreement rests: what a scale byte denotes, the
   exponential to base two of a product with `1 / log 2`, the search for a float's exponent field, and the bound on a
   quotient by a sum. Nothing here mentions a program. -/
module

public import Idealize.ShloMosaic.PureOps.Ideal
public import Idealize.ShloMosaic.PureOps.Ideal.Laws

@[expose] public section

set_option maxRecDepth 16384

noncomputable section

namespace Cert.Attn

open Idealize.ShloMosaic

/-! ## Words that hold only an exponent field -/

/-- The float32 whose exponent field is `n` and whose other bits are clear. -/
def field (n : BitVec 32) : EReal := Ideal.ofBits .f32 (n <<< 23)

/-- The three bit fields of the word `k <<< 23`. -/
theorem field_bits : ∀ k : Fin 256,
    ((BitVec.ofNat 32 k.val <<< 23).extractLsb' 31 1 == 1#1) = false
    ∧ ((BitVec.ofNat 32 k.val <<< 23).extractLsb' 23 8).toNat = k.val
    ∧ ((BitVec.ofNat 32 k.val <<< 23).extractLsb' 0 23).toNat = 0 := by
  decide

/-- The exponent field 0 is the number 0. -/
theorem field_zero : field (BitVec.ofNat 32 0) = 0 := by
  obtain ⟨h1, h2, h3⟩ := field_bits ⟨0, by omega⟩
  dsimp only at h1 h2 h3
  simp only [field, Ideal.ofBits, Ideal.ieee, Nat.reduceAdd, h1, h2, h3]
  norm_num

/-- The exponent field 255 is infinity. -/
theorem field_top : field (BitVec.ofNat 32 255) = ⊤ := by
  obtain ⟨h1, h2, h3⟩ := field_bits ⟨255, by omega⟩
  dsimp only at h1 h2 h3
  simp only [field, Ideal.ofBits, Ideal.ieee, Nat.reduceAdd, h1, h2, h3]
  norm_num

/-- An exponent field from 1 to 254 is a power of two. -/
theorem field_eq (k : ℕ) (h : 1 ≤ k) (h' : k ≤ 254) :
    field (BitVec.ofNat 32 k) = (((2 : ℝ) ^ ((k : ℤ) - 127) : ℝ) : EReal) := by
  obtain ⟨h1, h2, h3⟩ := field_bits ⟨k, by omega⟩
  dsimp only at h1 h2 h3
  have e1 : ¬ k = 2 ^ 8 - 1 := by omega
  have e2 : ¬ k = 0 := by omega
  simp only [field, Ideal.ofBits, Ideal.ieee, Nat.reduceAdd, h1, h2, h3, if_neg e1, if_neg e2]
  refine congrArg Real.toEReal ?_
  rw [zpow_sub₀ (by norm_num : (2 : ℝ) ≠ 0) _ ((23 : ℕ) : ℤ), zpow_natCast]
  have e3 : ((k : ℤ) - (2 ^ (8 - 1) - 1)) = (k : ℤ) - 127 := by norm_num
  rw [e3]
  generalize (2 : ℝ) ^ ((k : ℤ) - 127) = z
  rw [if_neg (by decide)]
  norm_num
  ring

/-! ## The exponential to base two -/

/-- At an integer the exponential to base two is the integer power. -/
theorem exp2_int (n : ℤ) : Ideal.exp2 (((n : ℝ) : ℝ) : EReal) = (((2 : ℝ) ^ n : ℝ) : EReal) := by
  show (((2 : ℝ) ^ (n : ℝ) : ℝ) : EReal) = _
  rw [Real.rpow_intCast]

/-- A number below 256, less 127, as a signed word. -/
theorem sub_bias : ∀ k : Fin 256, (BitVec.ofNat 32 k.val - 127#32).toInt = (k.val : ℤ) - 127 := by decide

/-- A field from 0 to 126, less 126, as a word. -/
theorem sub_126 : ∀ k : Fin 127, BitVec.ofNat 32 k.val - 126#32 = BitVec.ofInt 32 ((k.val : ℤ) - 126) := by decide

/-- An exponent from -127 to 0 plus 127, as a word. -/
theorem add_bias : ∀ k : Fin 128, BitVec.ofInt 32 ((k.val : ℤ) - 127) + 127#32 = BitVec.ofNat 32 k.val := by decide

/-- 127 less an exponent from -126 to 127, as a word. -/
theorem bias_sub : ∀ k : Fin 254, 127#32 - BitVec.ofInt 32 (127 - (k.val : ℤ)) = BitVec.ofNat 32 k.val := by decide

/-- A scale byte from 1 to 254, read as an exponent field, is two to the byte less 127. -/
theorem byte_eq (s : BitVec 8) (h : 1 ≤ s.toNat) (h' : s.toNat ≤ 254) :
    field (s.setWidth 32) = Ideal.exp2 ((((s.setWidth 32 - 127#32).toInt : ℝ) : ℝ) : EReal) := by
  have e : s.setWidth 32 = BitVec.ofNat 32 s.toNat := by
    apply BitVec.eq_of_toNat_eq; simp
  have e' : (BitVec.ofNat 32 s.toNat - 127#32).toInt = (s.toNat : ℤ) - 127 := sub_bias ⟨s.toNat, by omega⟩
  rw [exp2_int, e, e', field_eq _ h h']

/-- The exponential to base two of `x / log 2` is the exponential of `x`, at the infinities too. -/
theorem exp2_mul_inv_log (x : EReal) : Ideal.exp2 (x * (((Real.log 2)⁻¹ : ℝ) : EReal)) = Ideal.exp x := by
  have hp : 0 < (Real.log 2)⁻¹ := inv_pos.mpr (Real.log_pos (by norm_num))
  induction x using EReal.rec with
  | bot => rw [EReal.bot_mul_coe_of_pos hp]; rfl
  | top => rw [EReal.top_mul_coe_of_pos hp]; rfl
  | coe r =>
    rw [← EReal.coe_mul]
    show (((2 : ℝ) ^ (r * (Real.log 2)⁻¹) : ℝ) : EReal) = ((Real.exp r : ℝ) : EReal)
    congr 1
    rw [Real.rpow_def_of_pos (by norm_num)]
    congr 1
    have : Real.log 2 ≠ 0 := (Real.log_pos (by norm_num)).ne'
    field_simp

/-- An exponential is not negative. -/
theorem exp_nonneg (x : EReal) : 0 ≤ Ideal.exp x := by
  induction x using EReal.rec with
  | bot => exact le_refl _
  | top => exact le_top
  | coe r => exact EReal.coe_nonneg.mpr (Real.exp_pos r).le

/-! ## A quotient by a sum that contains the dividend -/

/-- A nonnegative number divided by a number no smaller is at most 1 (0 / 0 is minus infinity). -/
theorem div_le_one (u s : EReal) (h0 : 0 ≤ u) (h : u ≤ s) : Ideal.div u s ≤ 1 := by
  unfold Ideal.div
  split
  · next hs =>
    subst hs
    rw [if_neg (not_lt.mpr h)]
    exact bot_le
  · next hs =>
    have hpos : 0 < s := lt_of_le_of_ne (h0.trans h) (Ne.symm hs)
    induction s using EReal.rec with
    | bot => exact absurd hpos (not_lt.mpr bot_le)
    | top => simp
    | coe r =>
      have hr : 0 < r := EReal.coe_pos.mp hpos
      induction u using EReal.rec with
      | bot => exact absurd h0 (by simp)
      | top => exact absurd h (by simp)
      | coe v =>
        rw [← EReal.coe_inv, ← EReal.coe_mul]
        have hv : v ≤ r := EReal.coe_le_coe_iff.mp h
        exact_mod_cast mul_inv_le_one_of_le₀ hv hr.le

/-! ## The search for the exponent field -/

/-- One step of the search, by `w`: keep `n` if `y` is below the power of two of `n + w`, else take `n + w`. -/
def step (y : EReal) (n w : BitVec 32) : BitVec 32 :=
  if y < field (n + w) then n else n + w

/-- The eight steps of the search, from 0. -/
def search (y : EReal) : BitVec 32 :=
  step y (step y (step y (step y (step y (step y (step y (step y 0#32 128#32) 64#32) 32#32) 16#32) 8#32) 4#32) 2#32) 1#32

/-- A step on small numbers: the lower bound and the upper bound of the interval searched. -/
theorem step_spec (y : EReal) (n w : ℕ) (hw : 1 ≤ w) (hb : n + 2 * w ≤ 256)
    (hlo : n = 0 ∨ field (BitVec.ofNat 32 n) ≤ y)
    (hhi : n + 2 * w = 256 ∨ y < field (BitVec.ofNat 32 (n + 2 * w))) :
    ∃ n' : ℕ, step y (BitVec.ofNat 32 n) (BitVec.ofNat 32 w) = BitVec.ofNat 32 n' ∧ n' + w ≤ 256
      ∧ (n' = 0 ∨ field (BitVec.ofNat 32 n') ≤ y)
      ∧ (n' + w = 256 ∨ y < field (BitVec.ofNat 32 (n' + w))) := by
  have e : BitVec.ofNat 32 n + BitVec.ofNat 32 w = BitVec.ofNat 32 (n + w) := (BitVec.ofNat_add _ _).symm
  unfold step
  rw [e]
  split
  · next h => exact ⟨n, rfl, by omega, hlo, .inr h⟩
  · next h =>
    refine ⟨n + w, rfl, by omega, .inr (not_lt.mp h), ?_⟩
    rw [show n + w + w = n + 2 * w by omega]
    exact hhi

/-- What the search finds: the field `n` with `y` from its power of two up to the next one (0 where `y` is below all). -/
theorem search_spec (y : EReal) : ∃ n : ℕ, search y = BitVec.ofNat 32 n ∧ n ≤ 255
    ∧ (n = 0 ∨ field (BitVec.ofNat 32 n) ≤ y) ∧ (n = 255 ∨ y < field (BitVec.ofNat 32 (n + 1))) := by
  obtain ⟨n1, e1, b1, l1, u1⟩ := step_spec y 0 128 (by omega) (by omega) (.inl rfl) (.inl rfl)
  obtain ⟨n2, e2, b2, l2, u2⟩ := step_spec y n1 64 (by omega) (by omega) l1 (by simpa using u1)
  obtain ⟨n3, e3, b3, l3, u3⟩ := step_spec y n2 32 (by omega) (by omega) l2 (by simpa using u2)
  obtain ⟨n4, e4, b4, l4, u4⟩ := step_spec y n3 16 (by omega) (by omega) l3 (by simpa using u3)
  obtain ⟨n5, e5, b5, l5, u5⟩ := step_spec y n4 8 (by omega) (by omega) l4 (by simpa using u4)
  obtain ⟨n6, e6, b6, l6, u6⟩ := step_spec y n5 4 (by omega) (by omega) l5 (by simpa using u5)
  obtain ⟨n7, e7, b7, l7, u7⟩ := step_spec y n6 2 (by omega) (by omega) l6 (by simpa using u6)
  obtain ⟨n8, e8, b8, l8, u8⟩ := step_spec y n7 1 (by omega) (by omega) l7 (by simpa using u7)
  refine ⟨n8, ?_, by omega, l8, ?_⟩
  · unfold search
    rw [e1, e2, e3, e4, e5, e6, e7, e8]
  · rcases u8 with h | h
    · exact .inl (by omega)
    · exact .inr h

/-! ## The two exponents of a group -/

/-- The exponent of a group as the reference takes it, from the group's greatest element `a` and `y = a / 448`. -/
def exponent (a y : EReal) : EReal :=
  if a = 0 then 0
  else max (Ideal.liftRound Int.floor (Ideal.log y * (((Real.log 2)⁻¹ : ℝ) : EReal)) + 1) ((((-126 : ℤ) : ℝ) : ℝ) : EReal)

/-- The exponent of a group as the kernel takes it: the field found, less 126. -/
def exponentWord (a y : EReal) : BitVec 32 := if a = 0 then 0#32 else search y - 126#32

/-- Below 1 the two exponents are the same integer, between -126 and 0. -/
theorem exponent_eq (a y : EReal) (hy : y < 1) : ∃ e : ℤ, -126 ≤ e ∧ e ≤ 0 ∧
    exponent a y = (((e : ℝ) : ℝ) : EReal) ∧ exponentWord a y = BitVec.ofInt 32 e := by
  unfold exponent exponentWord
  split
  · exact ⟨0, by omega, by omega, by simp, rfl⟩
  obtain ⟨n, hn, hb, hlo, hhi⟩ := search_spec y
  have hL : 0 < Real.log 2 := Real.log_pos (by norm_num)
  have hn126 : n ≤ 126 := by
    by_contra hc
    have hlo' := hlo.resolve_left (by omega)
    have : (1 : EReal) ≤ field (BitVec.ofNat 32 n) := by
      by_cases h255 : n = 255
      · subst h255; rw [field_top]; exact le_top
      · rw [field_eq n (by omega) (by omega)]
        have : (1 : ℝ) ≤ (2 : ℝ) ^ ((n : ℤ) - 127) := one_le_zpow₀ (by norm_num) (by omega)
        exact_mod_cast this
    exact absurd (this.trans hlo') (not_le.mpr hy)
  have hhi' : y < (((2 : ℝ) ^ ((n : ℤ) - 126) : ℝ) : EReal) := by
    have := hhi.resolve_left (by omega)
    rw [field_eq (n + 1) (by omega) (by omega)] at this
    rwa [show (((n + 1 : ℕ) : ℤ) - 127) = (n : ℤ) - 126 by push_cast; ring] at this
  refine ⟨(n : ℤ) - 126, by omega, by omega, ?_, ?_⟩
  · -- the reference's exponent
    by_cases hy0 : y ≤ 0
    · -- no positive number: the logarithm is minus infinity
      have hn0 : n = 0 := by
        rcases hlo with h | h
        · exact h
        · by_contra hc
          rw [field_eq n (by omega) (by omega)] at h
          have : (0 : EReal) < (((2 : ℝ) ^ ((n : ℤ) - 127) : ℝ) : EReal) := by
            exact_mod_cast zpow_pos (by norm_num : (0:ℝ) < 2) _
          exact absurd (this.trans_le h) (not_lt.mpr hy0)
      have hlog : Ideal.log y = ⊥ := by
        induction y using EReal.rec with
        | bot => rfl
        | top => exact absurd hy0 (by simp)
        | coe r =>
          show (if r ≤ 0 then (⊥ : EReal) else _) = ⊥
          rw [if_pos (EReal.coe_nonpos.mp hy0)]
      rw [hlog, EReal.bot_mul_coe_of_pos (inv_pos.mpr hL), hn0]
      show max ((⊥ : EReal) + 1) _ = _
      rw [EReal.bot_add, max_eq_right bot_le]
      norm_num
    · push Not at hy0
      obtain ⟨r, rfl⟩ : ∃ r : ℝ, y = (r : EReal) := by
        refine ⟨y.toReal, (EReal.coe_toReal ?_ ?_).symm⟩
        · exact (hy.trans (EReal.coe_lt_top 1)).ne
        · exact (EReal.bot_lt_zero.trans hy0).ne'
      have hr : 0 < r := EReal.coe_pos.mp hy0
      have hrhi : r < (2 : ℝ) ^ ((n : ℤ) - 126) := EReal.coe_lt_coe_iff.mp hhi'
      have hlog : Ideal.log (r : EReal) = ((Real.log r : ℝ) : EReal) := by
        show (if r ≤ 0 then (⊥ : EReal) else _) = _
        rw [if_neg (not_le.mpr hr)]
      have hx : Real.log r * (Real.log 2)⁻¹ < (n : ℝ) - 126 := by
        have h1 : Real.log r < ((n : ℤ) - 126 : ℤ) * Real.log 2 := by
          rw [← Real.log_zpow]; exact Real.log_lt_log hr hrhi
        rw [← div_eq_mul_inv, div_lt_iff₀ hL]
        push_cast at h1
        exact h1
      rw [hlog, ← EReal.coe_mul]
      show max (((⌊Real.log r * (Real.log 2)⁻¹⌋ : ℝ) : EReal) + 1) _ = _
      rw [show (1 : EReal) = ((1 : ℝ) : EReal) from rfl, ← EReal.coe_add, ← EReal.coe_strictMono.monotone.map_max]
      congr 1
      have hf : ⌊Real.log r * (Real.log 2)⁻¹⌋ + 1 ≤ (n : ℤ) - 126 := by
        rw [Int.add_one_le_iff, Int.floor_lt]; push_cast; exact hx
      rcases Nat.eq_zero_or_pos n with hn0 | hn0
      · subst hn0
        rw [max_eq_right]
        · norm_num
        · have : ((⌊Real.log r * (Real.log 2)⁻¹⌋ + 1 : ℤ) : ℝ) ≤ ((-126 : ℤ) : ℝ) := by
            exact_mod_cast (by simpa using hf)
          push_cast at this ⊢
          exact this
      · have hrlo : (2 : ℝ) ^ ((n : ℤ) - 127) ≤ r := by
          have := hlo.resolve_left (by omega)
          rw [field_eq n (by omega) (by omega)] at this
          exact EReal.coe_le_coe_iff.mp this
        have hx' : (n : ℝ) - 127 ≤ Real.log r * (Real.log 2)⁻¹ := by
          have h1 : ((n : ℤ) - 127 : ℤ) * Real.log 2 ≤ Real.log r := by
            rw [← Real.log_zpow]; exact Real.log_le_log (by positivity) hrlo
          rw [← div_eq_mul_inv, le_div_iff₀ hL]
          push_cast at h1
          exact h1
        have hfe : ⌊Real.log r * (Real.log 2)⁻¹⌋ = (n : ℤ) - 127 := by
          rw [Int.floor_eq_iff]
          push_cast
          exact ⟨hx', by linarith⟩
        rw [hfe, max_eq_left]
        · push_cast; ring
        · push_cast
          have : (1 : ℝ) ≤ n := by exact_mod_cast hn0
          linarith
  · rw [hn]
    exact sub_126 ⟨n, by omega⟩

/-- The scale by which the kernel multiplies a group's codes is two to the reference's exponent. -/
theorem scale_eq (a y : EReal) (hy : y < 1) : field (exponentWord a y + 127#32) = Ideal.exp2 (exponent a y) := by
  obtain ⟨e, h1, h2, h3, h4⟩ := exponent_eq a y hy
  obtain ⟨k, rfl⟩ : ∃ k : ℕ, e = (k : ℤ) - 127 := ⟨(e + 127).toNat, by omega⟩
  have : BitVec.ofInt 32 ((k : ℤ) - 127) + 127#32 = BitVec.ofNat 32 k := by
    exact add_bias ⟨k, by omega⟩
  rw [h3, h4, this, exp2_int, field_eq k (by omega) (by omega)]

/-- The factor that the kernel multiplies a group by before it rounds is two to minus the reference's exponent. -/
theorem unscale_eq (a y : EReal) (hy : y < 1) : field (127#32 - exponentWord a y) = Ideal.exp2 (0 - exponent a y) := by
  obtain ⟨e, h1, h2, h3, h4⟩ := exponent_eq a y hy
  obtain ⟨k, rfl⟩ : ∃ k : ℕ, e = 127 - (k : ℤ) := ⟨(127 - e).toNat, by omega⟩
  have : 127#32 - BitVec.ofInt 32 (127 - (k : ℤ)) = BitVec.ofNat 32 k := by
    exact bias_sub ⟨k, by omega⟩
  rw [h3, h4, this, field_eq k (by omega) (by omega),
    show (0 : EReal) - ((((127 - (k : ℤ) : ℤ) : ℝ) : ℝ) : EReal) = (((((k : ℤ) - 127 : ℤ) : ℝ) : ℝ) : EReal) from by
      rw [show (0 : EReal) = ((0 : ℝ) : EReal) from rfl, ← EReal.coe_sub]; congr 1; push_cast; ring, exp2_int]

end Cert.Attn

end
-- ==== Proof.Attention.lean ====
/- The attention of one head over the extended reals, in the reference's words: masked scores, softmax, the group's
   greatest probability, the quantised probabilities and their product with the values. Then the kernel's words for the
   same quantities, and the two agree. Nothing here mentions a program. -/
module

public import proofs.«01_k».proof.Proof.Scalars

@[expose] public section

set_option maxRecDepth 16384

noncomputable section

namespace Cert.Attn

open Idealize.ShloMosaic

/-! ## The reference's words -/

/-- What a scale byte stands for: two to the byte less 127. -/
def byteScale (s : BitVec 8) : EReal := Ideal.exp2 ((((s.setWidth 32 - 127#32).toInt : ℝ) : ℝ) : EReal)

/-- The score of query `q` against key `k`: their product times `1 / √128`, or `-∞` where the key is later than the query
    or lies in another document. -/
def score (Q K : Fin 640 → Fin 128 → EReal) (seg : Fin 640 → BitVec 32) (q k : Fin 640) : EReal :=
  Scalar.select (IntOp.andi (IntOp.cmpi .sle (BitVec.ofNat 32 k.val) (BitVec.ofNat 32 q.val)) (IntOp.cmpi .eq (seg q) (seg k)))
    ((∑ x : Fin 128, Q q x * K k x) * Ideal.ofBits .f32 0x3DB504F3#32) (Ideal.ofBits .f32 0xFF800000#32)

/-- The greatest of a row of scores. -/
def top (s : Fin 640 → EReal) : EReal := Finset.univ.fold max (Ideal.ofBits .f32 0xFF800000#32) s

/-- The softmax of a row of scores. -/
def prob (s : Fin 640 → EReal) (k : Fin 640) : EReal :=
  Ideal.div (Ideal.exp (s k - max (Ideal.ofBits .f32 0xFF800000#32) (top s)))
    (∑ x : Fin 640, Ideal.exp (s x - max (Ideal.ofBits .f32 0xFF800000#32) (top s)))

/-- The greatest probability of the group `g` of 32 keys. -/
def peak (p : Fin 640 → EReal) (g : Fin 20) : EReal :=
  Finset.univ.fold max (Ideal.ofBits .f32 0xFF800000#32) fun j : Fin 32 => p ⟨g.val * 32 + j.val, by omega⟩

/-- The group's greatest probability over 448. -/
def scaled (a : EReal) : EReal := a * Ideal.ofBits .f32 0x3B124925#32

/-- A probability times a scale, held between -448 and 448. -/
def code (p s : EReal) : EReal := min (Ideal.ofBits .f32 0x43E00000#32) (max (Ideal.ofBits .f32 0xC3E00000#32) (p * s))

/-- The key's group of 32. -/
def grp (k : Fin 640) : Fin 20 := ⟨k.val / 32, by omega⟩

/-- A quantised probability: the code at the group's exponent times two to the exponent. -/
def quantised (p : Fin 640 → EReal) (k : Fin 640) : EReal :=
  code (p k) (Ideal.exp2 (0 - exponent (peak p (grp k)) (scaled (peak p (grp k)))))
    * Ideal.exp2 (exponent (peak p (grp k)) (scaled (peak p (grp k))))

/-- The attention of one head at query `q` and lane `d`. -/
def attend (Q K V : Fin 640 → Fin 128 → EReal) (seg : Fin 640 → BitVec 32) (q : Fin 640) (d : Fin 128) : EReal :=
  ∑ k : Fin 640, quantised (prob (score Q K seg q)) k * V k d

/-! ## The kernel's words -/

/-- The score with the product and the comparison of documents taken the other way round. -/
def scoreK (Q K : Fin 640 → Fin 128 → EReal) (seg : Fin 640 → BitVec 32) (q k : Fin 640) : EReal :=
  Scalar.select (IntOp.andi (IntOp.cmpi .sle (BitVec.ofNat 32 k.val) (BitVec.ofNat 32 q.val)) (IntOp.cmpi .eq (seg k) (seg q)))
    ((∑ x : Fin 128, K k x * Q q x) * Ideal.ofBits .f32 0x3DB504F3#32) (Ideal.ofBits .f32 0xFF800000#32)

/-- The softmax by the exponential to base two, `c` being the factor on its argument. -/
def probK (c : EReal) (s : Fin 640 → EReal) (k : Fin 640) : EReal :=
  Ideal.div (Ideal.exp2 ((s k - top s) * c)) (∑ x : Fin 640, Ideal.exp2 ((s x - top s) * c))

/-- The quantised probability with the scales read from words that hold only an exponent field. -/
def quantisedK (p : Fin 640 → EReal) (k : Fin 640) : EReal :=
  code (p k) (field (127#32 - exponentWord (peak p (grp k)) (scaled (peak p (grp k)))))
    * field (exponentWord (peak p (grp k)) (scaled (peak p (grp k))) + 127#32)

/-- The attention of one head in the kernel's words. -/
def attendK (c : EReal) (Q K V : Fin 640 → Fin 128 → EReal) (seg : Fin 640 → BitVec 32) (q : Fin 640) (d : Fin 128) : EReal :=
  ∑ k : Fin 640, V k d * quantisedK (probK c (scoreK Q K seg q)) k

/-! ## They agree -/

/-- The word of `-∞`. -/
theorem ofBits_bot : Ideal.ofBits .f32 0xFF800000#32 = ⊥ := by
  simp [Ideal.ofBits, Ideal.ieee]

/-- The word of -126. -/
theorem ofBits_neg126 : Ideal.ofBits .f32 0xC2FC0000#32 = ((((-126 : ℤ) : ℝ) : ℝ) : EReal) := by
  simp [Ideal.ofBits, Ideal.ieee, -EReal.coe_mul]
  norm_num

/-- The word of `1 / 448` as a float32: a number between 0 and 1. -/
theorem ofBits_inv448 : Ideal.ofBits .f32 0x3B124925#32 = ((9586981 / 4294967296 : ℝ) : EReal) := by
  simp [Ideal.ofBits, Ideal.ieee, -EReal.coe_mul]
  norm_num

/-- The two scores are one. -/
theorem scoreK_eq (Q K : Fin 640 → Fin 128 → EReal) (seg : Fin 640 → BitVec 32) (q k : Fin 640) :
    scoreK Q K seg q k = score Q K seg q k := by
  have e : IntOp.cmpi .eq (seg k) (seg q) = IntOp.cmpi .eq (seg q) (seg k) := by
    simp only [IntOp.cmpi, BEq.comm]
  unfold scoreK score
  rw [e]
  simp only [mul_comm (K k _)]

/-- The two softmaxes are one. -/
theorem probK_eq (s : Fin 640 → EReal) (k : Fin 640) : probK (((Real.log 2)⁻¹ : ℝ) : EReal) s k = prob s k := by
  unfold probK prob
  simp only [exp2_mul_inv_log, ofBits_bot, bot_le, max_eq_right]

/-- A softmax value is at most 1. -/
theorem prob_le_one (s : Fin 640 → EReal) (k : Fin 640) : prob s k ≤ 1 :=
  div_le_one _ _ (exp_nonneg _) (Finset.single_le_sum (f := fun x => Ideal.exp (s x - max (Ideal.ofBits .f32 0xFF800000#32) (top s)))
    (fun _ _ => exp_nonneg _) (Finset.mem_univ k))

/-- So is a group's greatest. -/
theorem peak_le_one (p : Fin 640 → EReal) (h : ∀ k, p k ≤ 1) (g : Fin 20) : peak p g ≤ 1 := by
  unfold peak
  rw [Finset.fold_max_le, ofBits_bot]
  exact ⟨bot_le, fun _ _ => h _⟩

/-- Over 448 it is below 1. -/
theorem scaled_lt_one (a : EReal) (h : a ≤ 1) : scaled a < 1 := by
  have h0 : (0 : ℝ) ≤ 9586981 / 4294967296 := by norm_num
  have h1 : (9586981 / 4294967296 : ℝ) < 1 := by norm_num
  unfold scaled
  rw [ofBits_inv448]
  generalize (9586981 / 4294967296 : ℝ) = r at h0 h1
  calc a * (r : EReal) ≤ 1 * (r : EReal) := mul_le_mul_of_nonneg_right h (EReal.coe_nonneg.mpr h0)
    _ = (r : EReal) := one_mul _
    _ < 1 := by exact_mod_cast h1

/-- The two quantised probabilities are one. -/
theorem quantisedK_eq (p : Fin 640 → EReal) (h : ∀ k, p k ≤ 1) (k : Fin 640) : quantisedK p k = quantised p k := by
  have hy := scaled_lt_one _ (peak_le_one p h (grp k))
  unfold quantisedK quantised
  rw [scale_eq _ _ hy, unscale_eq _ _ hy]

/-- The attention of one head is the same in both words. -/
theorem attendK_eq (Q K V : Fin 640 → Fin 128 → EReal) (seg : Fin 640 → BitVec 32) (q : Fin 640) (d : Fin 128) :
    attendK (((Real.log 2)⁻¹ : ℝ) : EReal) Q K V seg q d = attend Q K V seg q d := by
  have e : probK (((Real.log 2)⁻¹ : ℝ) : EReal) (scoreK Q K seg q) = prob (score Q K seg q) := by
    funext k
    rw [probK_eq, funext (scoreK_eq Q K seg q)]
  unfold attendK attend
  rw [e]
  refine Finset.sum_congr rfl fun k _ => ?_
  rw [quantisedK_eq _ (prob_le_one _) k, mul_comm]

end Cert.Attn
end
-- ==== Proof.KernelStages.lean ====
/- The kernel's one block in stages, each stage a function of whole blocks, and each stage read at an index. The
   generated values are these stages composed. -/
module

public import proofs.«01_k».proof.Proof.Gen.KernelIdeal.Value
public import proofs.«01_k».proof.Proof.Attention
public import Idealize.ShloMosaic.Lib.Pipeline.ValueKit

@[expose] public section

set_option maxRecDepth 16384

noncomputable section

namespace Cert.KernelIdeal.Stages

open Cert.KernelIdeal Cert.KernelIdeal.Gen Idealize.ShloMosaic

/-! ## The stages -/

/-- The exponentials to base two of the scores less their query's greatest. -/
def exps (v139 : FVec Ideal S640x640 .f32) (v140 : FVec Ideal S640 .f32) : FVec Ideal S640x640 .f32 :=
  have v141 : FVec Ideal S1x640 .f32 := shapeCast S1x640 v140 shapeCasts_S640_S1x640
  have v142 : FVec Ideal S640x640 .f32 := broadcastTo S640x640 v141 broadcasts_S1x640_S640x640
  have v143 : FVec Ideal S640x640 .f32 := subf v139 v142
  have cst_34 : Ideal .f32 := Named.named κ "log2e" 0x3FB8AA3B#32
  have v144 : FVec Ideal S640x640 .f32 := broadcast S640x640 cst_34
  have v145 : FVec Ideal S640x640 .f32 := mulf v143 v144
  exp2 v145

/-- The exponentials over their query's sum, cut into groups of 32 keys. -/
def probs (v146 : FVec Ideal S640x640 .f32) : FVec Ideal S20x32x640 .f32 :=
  have v147 : FVec Ideal S640 .f32 := multiReduction .add [0] S640 v146 0x00000000#32 reduces_S640x640_S640 (.inl rfl) rfl
  have v148 : FVec Ideal S1x640 .f32 := shapeCast S1x640 v147 shapeCasts_S640_S1x640
  have v149 : FVec Ideal S640x640 .f32 := broadcastTo S640x640 v148 broadcasts_S1x640_S640x640
  have v150 : FVec Ideal S640x640 .f32 := divf v146 v149
  shapeCast S20x32x640 v150 shapeCasts_S640x640_S20x32x640

/-- The greatest probability of every group. -/
def peaks (v151 : FVec Ideal S20x32x640 .f32) : FVec Ideal S20x1x640 .f32 :=
  have v152 : FVec Ideal S20x640 .f32 := multiReduction .maximumf [1] S20x640 v151 0xFF800000#32 reduces_S20x32x640_S20x640 (.inl rfl) rfl
  shapeCast S20x1x640 v152 shapeCasts_S20x640_S20x1x640

/-- The peaks over 448. -/
def scaleds (v153 : FVec Ideal S20x1x640 .f32) : FVec Ideal S20x1x640 .f32 :=
  have cst_37 : Ideal .f32 := Scalar.ofBits .f32 0x3B124925#32
  have v154 : FVec Ideal S20x1x640 .f32 := broadcast S20x1x640 cst_37
  mulf v153 v154

/-- One step of the search for the exponent field, on every group. -/
def steps (y : FVec Ideal S20x1x640 .f32) (n : IVec S20x1x640 32) (w : BitVec 32) : IVec S20x1x640 32 :=
  select (cmpf .olt y (bitcastToFloat .f32 (shli (addi n (broadcast S20x1x640 w)) (broadcast S20x1x640 23#32)))) n
    (addi n (broadcast S20x1x640 w))

/-- The exponent of every group, given the field less 126. -/
def words (v153 : FVec Ideal S20x1x640 .f32) (v230 : IVec S20x1x640 32) : IVec S20x1x640 32 :=
  have cst_54 : Ideal .f32 := Scalar.ofBits .f32 0x00000000#32
  have v231 : FVec Ideal S20x1x640 .f32 := broadcast S20x1x640 cst_54
  have v232 : IVec S20x1x640 1 := cmpf .oeq v153 v231
  have v233 : IVec S20x1x640 32 := broadcast S20x1x640 0#32
  select v232 v233 v230

/-- The quantised probabilities. -/
def quants (v151 : FVec Ideal S20x32x640 .f32) (v234 : IVec S20x1x640 32) : FVec Ideal S640x640 .bf16 :=
  have v235 : IVec S20x1x640 32 := broadcast S20x1x640 127#32
  have v236 : IVec S20x1x640 32 := addi v234 v235
  have v237 : IVec S20x1x640 32 := broadcast S20x1x640 23#32
  have v238 : IVec S20x1x640 32 := shli v236 v237
  have v239 : FVec Ideal S20x1x640 .f32 := bitcastToFloat .f32 v238
  have v240 : IVec S20x1x640 32 := broadcast S20x1x640 127#32
  have v241 : IVec S20x1x640 32 := subi v240 v234
  have v242 : IVec S20x1x640 32 := broadcast S20x1x640 23#32
  have v243 : IVec S20x1x640 32 := shli v241 v242
  have v244 : FVec Ideal S20x1x640 .f32 := bitcastToFloat .f32 v243
  have v245 : FVec Ideal S20x32x640 .f32 := broadcastTo S20x32x640 v244 broadcasts_S20x1x640_S20x32x640
  have v246 : FVec Ideal S20x32x640 .f32 := mulf v151 v245
  have cst_59 : Ideal .f32 := Scalar.ofBits .f32 0xC3E00000#32
  have cst_60 : Ideal .f32 := Scalar.ofBits .f32 0x43E00000#32
  have v247 : FVec Ideal S20x32x640 .f32 := broadcast S20x32x640 cst_59
  have v248 : FVec Ideal S20x32x640 .f32 := maximumf v247 v246
  have v249 : FVec Ideal S20x32x640 .f32 := broadcast S20x32x640 cst_60
  have v250 : FVec Ideal S20x32x640 .f32 := minimumf v249 v248
  have v251 : FVec Ideal S640x640 .f32 := shapeCast S640x640 v250 shapeCasts_S20x32x640_S640x640
  have v252 : FVec Ideal S640x640 .fp8e4m3 := truncf .fp8e4m3 v251 bitsLt_fp8e4m3_f32
  have v253 : FVec Ideal S640x640 .bf16 := extf .bf16 v252 bitsLt_fp8e4m3_bf16
  have v254 : FVec Ideal S640x640 .f32 := extf .f32 v253 bitsLt_bf16_f32
  have v255 : FVec Ideal S20x32x640 .f32 := shapeCast S20x32x640 v254 shapeCasts_S640x640_S20x32x640
  have v256 : FVec Ideal S20x32x640 .f32 := broadcastTo S20x32x640 v239 broadcasts_S20x1x640_S20x32x640
  have v257 : FVec Ideal S20x32x640 .f32 := mulf v255 v256
  have v258 : FVec Ideal S640x640 .f32 := shapeCast S640x640 v257 shapeCasts_S20x32x640_S640x640
  truncf .bf16 v258 bitsLt_bf16_f32

/-- The product of the values with the quantised probabilities. -/
def outs (v123 : FVec Ideal S128x640 .bf16) (v259 : FVec Ideal S640x640 .bf16) : FVec Ideal S1x640x128 .bf16 :=
  have cst_61 : FVec Ideal S128x640 .f32 := constant S128x640 .f32 0x00000000#32
  have v260 : FVec Ideal S128x640 .f32 := matmul dot_S128x640_S640x640_S128x640_1_0_0_1_n_n none v123 v259 cst_61
  have v261 : FVec Ideal S128x640 .bf16 := truncf .bf16 v260 bitsLt_bf16_f32
  have v262 : FVec Ideal S640x128 .bf16 := transpose S640x128 [1, 0] v261 transposes_S128x640_p1_0_S640x128
  shapeCast S1x640x128 v262 shapeCasts_S640x128_S1x640x128

/-! ## The generated values are the stages -/

variable (v139 : FVec Ideal S640x640 .f32) (v140 : FVec Ideal S640 .f32)

/-- The probabilities. -/
theorem pay25_eq : k0_pay25 v139 v140 = probs (exps v139 v140) := rfl

/-- The peaks. -/
theorem pay26_eq : k0_pay26 v139 v140 = peaks (k0_pay25 v139 v140) := rfl

/-- The peaks over 448. -/
theorem pay27_eq : k0_pay27 v139 v140 = scaleds (k0_pay26 v139 v140) := rfl

/-- The first three steps of the search. -/
theorem pay28_eq : k0_pay28 v139 v140 = steps (k0_pay27 v139 v140) (steps (k0_pay27 v139 v140)
    (steps (k0_pay27 v139 v140) (broadcast S20x1x640 0#32) 128#32) 64#32) 32#32 := rfl

/-- The last five steps of the search, less 126. -/
theorem pay30_eq (y : FVec Ideal S20x1x640 .f32) : k0_pay30 y (k0_pay28 v139 v140) (k0_pay29 v139 v140) =
    subi (steps y (steps y (steps y (steps y (steps y (k0_pay28 v139 v140) 16#32) 8#32) 4#32) 2#32) 1#32)
      (broadcast S20x1x640 126#32) := rfl

/-- The block written. -/
theorem pay1_eq (v123 : FVec Ideal S128x640 .bf16) (v151 : FVec Ideal S20x32x640 .f32) (v153 : FVec Ideal S20x1x640 .f32)
    (v230 : IVec S20x1x640 32) : k0_pay1 v123 v151 v153 v230 = outs v123 (quants v151 (words v153 v230)) := rfl

/-! ## The stages at an index -/

/-- A word shifted into the exponent field, read as a float32. -/
theorem ofBits_shl (n : BitVec 32) : Ideal.ofBits .f32 (IntOp.shli .vector n 23#32) = Attn.field n := rfl

/-- The score of key `k` against query `q`. -/
theorem scores_apply (v24 : FVec Ideal S128x640 .bf16) (v50 : FVec Ideal S640x128 .bf16) (v130 : Vec Ideal S1x640x1 .i32)
    (v132 : Vec Ideal S1x1x640 .i32) (k q : Fin 640) :
    k0_pay23 v24 v50 v130 v132 (ix2 k q) = Scalar.select
      (IntOp.andi (IntOp.cmpi .sle (BitVec.ofNat 32 k.val) (BitVec.ofNat 32 q.val))
        (IntOp.cmpi .eq (v130 (ix3 0 k 0)) (v132 (ix3 0 0 q))))
      ((∑ x : Fin 128, v50 (ix2 k x) * v24 (ix2 x q)) * Ideal.ofBits .f32 0x3DB504F3#32)
      (Ideal.ofBits .f32 0xFF800000#32) := by
  pointwise [k0_pay23]

/-- The greatest score of a query. -/
theorem tops_apply (v24 : FVec Ideal S128x640 .bf16) (v50 : FVec Ideal S640x128 .bf16) (v130 : Vec Ideal S1x640x1 .i32)
    (v132 : Vec Ideal S1x1x640 .i32) (q : Fin 640) :
    k0_pay24 v24 v50 v130 v132 (ix1 q) = Finset.univ.fold max (Ideal.ofBits .f32 0xFF800000#32)
      fun k : Fin 640 => k0_pay23 v24 v50 v130 v132 (ix2 k q) := by
  pointwise [k0_pay24]

/-- The exponential of a score less its query's greatest. -/
theorem exps_apply (k q : Fin 640) : exps v139 v140 (ix2 k q) = Ideal.exp2 ((v139 (ix2 k q) - v140 (ix1 q)) *
    Named.named (F := Ideal) κ "log2e" (φ := .f32) 0x3FB8AA3B#32) := by
  pointwise [exps]
  rfl

/-- The probability of key `j` of group `g`. -/
theorem probs_apply (v146 : FVec Ideal S640x640 .f32) (g : Fin 20) (j : Fin 32) (q : Fin 640) :
    probs v146 (ix3 g j q) = Ideal.div (v146 (ix2 ⟨g.val * 32 + j.val, by omega⟩ q)) (∑ k : Fin 640, v146 (ix2 k q)) := by
  pointwise [probs]

/-- The greatest probability of group `g`. -/
theorem peaks_apply (v151 : FVec Ideal S20x32x640 .f32) (g : Fin 20) (q : Fin 640) :
    peaks v151 (ix3 g 0 q) = Finset.univ.fold max (Ideal.ofBits .f32 0xFF800000#32) fun j : Fin 32 => v151 (ix3 g j q) := by
  pointwise [peaks]

/-- A peak over 448. -/
theorem scaleds_apply (v153 : FVec Ideal S20x1x640 .f32) (i : S20x1x640.Idx) :
    scaleds v153 i = v153 i * Ideal.ofBits .f32 0x3B124925#32 := by
  pointwise [scaleds]

/-- One step of the search. -/
theorem steps_apply (y : FVec Ideal S20x1x640 .f32) (n : IVec S20x1x640 32) (w : BitVec 32) (i : S20x1x640.Idx) :
    steps y n w i = Attn.step (y i) (n i) w := by
  pointwise [steps]
  rfl

/-- The exponent of a group. -/
theorem words_apply (v153 : FVec Ideal S20x1x640 .f32) (v230 : IVec S20x1x640 32) (i : S20x1x640.Idx) :
    words v153 v230 i = if v153 i = 0 then 0#32 else v230 i := by
  pointwise [words]

/-- A quantised probability. -/
theorem quants_apply (v151 : FVec Ideal S20x32x640 .f32) (v234 : IVec S20x1x640 32) (k q : Fin 640) :
    quants v151 v234 (ix2 k q) = min (Ideal.ofBits .f32 0x43E00000#32) (max (Ideal.ofBits .f32 0xC3E00000#32)
      (v151 (ix3 ⟨k.val / 32, by omega⟩ ⟨k.val % 32, by omega⟩ q) * Attn.field (127#32 - v234 (ix3 ⟨k.val / 32, by omega⟩ 0 q))))
      * Attn.field (v234 (ix3 ⟨k.val / 32, by omega⟩ 0 q) + 127#32) := by
  pointwise [quants]
  rfl

/-- The output of query `q` at lane `d`. -/
theorem outs_apply (v123 : FVec Ideal S128x640 .bf16) (v259 : FVec Ideal S640x640 .bf16) (q : Fin 640) (d : Fin 128) :
    outs v123 v259 (ix3 0 q d) = ∑ k : Fin 640, v123 (ix2 d k) * v259 (ix2 k q) := by
  pointwise [outs]

/-! ## The operands at an index -/

/-- A query entry: its code times the float32 whose exponent field is its scale byte. -/
theorem query_apply (v0 : Vec Ideal S1x1x640x128 .fp8e4m3) (v4 : Vec Ideal S1x1x4x640 .i8) (d : Fin 128) (q : Fin 640) :
    k0_pay2 v0 v4 (ix2 d q) = v0 (ix4 0 0 q d) * Attn.field ((v4 (ix4 0 0 ⟨d.val / 32, by omega⟩ q) : BitVec 8).setWidth 32) := by
  pointwise [k0_pay2]
  refine congrArg (v0 (ix4 0 0 q d) * ·) ?_
  split_ifs <;> refine congrArg (fun g => Attn.field ((v4 (ix4 0 0 g q) : BitVec 8).setWidth 32)) (Fin.ext ?_) <;> norm_num <;> omega

/-- The float32 of a key's scale byte. -/
theorem pay4_apply (v4 : Vec Ideal S1x1x4x640 .i8) (g : Fin 4) (k : Fin 640) :
    k0_pay4 v4 (ix2 g k) = Attn.field ((v4 (ix4 0 0 g k) : BitVec 8).setWidth 32) := by
  pointwise [k0_pay4]
  rfl

/-- A key entry likewise. -/
theorem key_apply (v0 : Vec Ideal S1x1x640x128 .fp8e4m3) (v4 : Vec Ideal S1x1x4x640 .i8) (k : Fin 640) (d : Fin 128) :
    k0_pay7 (k0_pay3 v0) (k0_pay4 v4) (k0_pay5 v4) (k0_pay6 v4) (ix2 k d)
      = v0 (ix4 0 0 k d) * Attn.field ((v4 (ix4 0 0 ⟨d.val / 32, by omega⟩ k) : BitVec 8).setWidth 32) := by
  rw [← pay4_apply]
  pointwise [k0_pay7, k0_pay6, k0_pay5, k0_pay3]
  refine congrArg (v0 (ix4 0 0 k d) * ·) ?_
  split_ifs <;> refine congrArg (fun g => k0_pay4 v4 (ix2 g k)) (Fin.ext ?_) <;> norm_num <;> omega

/-- A case distinction is a value that both its cases are. -/
theorem rung {α : Type} {c : Prop} [Decidable c] {x y z : α} (h1 : c → x = z) (h2 : ¬ c → y = z) :
    (if _ : c then x else y) = z := by
  by_cases h : c
  · rw [dif_pos h]; exact h1 h
  · rw [dif_neg h]; exact h2 h

/-- The float32 of a value's scale byte. -/
theorem pay8_apply (v4 : Vec Ideal S1x1x20x128 .i8) (g : Fin 20) (d : Fin 128) :
    k0_pay8 v4 (ix2 g d) = Attn.field ((v4 (ix4 0 0 g d) : BitVec 8).setWidth 32) := by
  pointwise [k0_pay8]
  rfl

/-- A value entry likewise. -/
theorem value_apply (v0 : Vec Ideal S1x1x640x128 .fp8e4m3) (v4 : Vec Ideal S1x1x20x128 .i8) (d : Fin 128) (k : Fin 640) :
    k0_pay22 (k0_pay8 v4) (k0_pay9 v4) (k0_pay10 v4) (k0_pay11 v4) (k0_pay12 v4) (k0_pay13 v4) (k0_pay14 v4) (k0_pay15 v4)
      (k0_pay16 v4) (k0_pay17 v4) (k0_pay18 v4) (k0_pay19 v4) (k0_pay20 v4) (k0_pay21 v4) v0 (ix2 d k)
      = v0 (ix4 0 0 k d) * Attn.field ((v4 (ix4 0 0 ⟨k.val / 32, by omega⟩ d) : BitVec 8).setWidth 32) := by
  rw [← pay8_apply]
  pointwise [k0_pay22, k0_pay21, k0_pay20, k0_pay19, k0_pay18, k0_pay17, k0_pay16, k0_pay15, k0_pay14, k0_pay13, k0_pay12, k0_pay11, k0_pay10, k0_pay9]
  refine congrArg (v0 (ix4 0 0 k d) * ·) ?_
  simp only [Nat.sub_sub, Nat.reduceAdd]
  iterate 19
    refine rung (fun _ => ?_) (fun _ => ?_)
    · refine congrArg (fun g => k0_pay8 v4 (ix2 g d)) (Fin.ext ?_)
      norm_num
      omega
  refine congrArg (fun g => k0_pay8 v4 (ix2 g d)) (Fin.ext ?_)
  norm_num
  omega

end Cert.KernelIdeal.Stages
end
-- ==== Proof.KernelBlock.lean ====
/- What the kernel's one block computes: the attention of one head in the kernel's words. -/
module

public import proofs.«01_k».proof.Proof.KernelStages

@[expose] public section

set_option maxRecDepth 16384

noncomputable section

namespace Cert.KernelIdeal.Block

open Cert.KernelIdeal Cert.KernelIdeal.Gen Cert.KernelIdeal.Stages Idealize.ShloMosaic

/-- The factor on the exponential's argument. -/
abbrev factor : EReal := Named.named (F := Ideal) κ "log2e" (φ := .f32) 0x3FB8AA3B#32

/-- A group's probabilities: the softmax of the query's scores. -/
theorem probs_eq (v139 : FVec Ideal S640x640 .f32) (v140 : FVec Ideal S640 .f32) (q : Fin 640)
    (h : v140 (ix1 q) = Attn.top fun k => v139 (ix2 k q)) (g : Fin 20) (j : Fin 32) :
    k0_pay25 v139 v140 (ix3 g j q) = Attn.probK factor (fun k => v139 (ix2 k q)) ⟨g.val * 32 + j.val, by omega⟩ := by
  rw [pay25_eq, probs_apply]
  simp only [exps_apply, h]
  rfl

/-- The word searched for a group. -/
theorem search_eq (v139 : FVec Ideal S640x640 .f32) (v140 : FVec Ideal S640 .f32) (i : S20x1x640.Idx) :
    k0_pay30 (k0_pay27 v139 v140) (k0_pay28 v139 v140) (k0_pay29 v139 v140) i
      = Attn.search (Attn.scaled (k0_pay26 v139 v140 i)) - 126#32 := by
  have e : k0_pay27 v139 v140 i = Attn.scaled (k0_pay26 v139 v140 i) := by
    rw [pay27_eq, scaleds_apply]; rfl
  rw [pay30_eq, pay28_eq]
  show IntOp.subi (steps _ _ _ i) 126#32 = _
  simp only [steps_apply, e]
  rfl

/-- A quantised probability of query `q`. -/
theorem quants_eq (v139 : FVec Ideal S640x640 .f32) (v140 : FVec Ideal S640 .f32) (q : Fin 640)
    (h : v140 (ix1 q) = Attn.top fun k => v139 (ix2 k q)) (k : Fin 640) :
    quants (k0_pay25 v139 v140) (words (k0_pay26 v139 v140)
        (k0_pay30 (k0_pay27 v139 v140) (k0_pay28 v139 v140) (k0_pay29 v139 v140))) (ix2 k q)
      = Attn.quantisedK (Attn.probK factor fun k => v139 (ix2 k q)) k := by
  have hp : k0_pay26 v139 v140 (ix3 (Attn.grp k) 0 q)
      = Attn.peak (Attn.probK factor fun k => v139 (ix2 k q)) (Attn.grp k) := by
    rw [pay26_eq, peaks_apply]
    simp only [probs_eq v139 v140 q h]
    rfl
  have hw : words (k0_pay26 v139 v140) (k0_pay30 (k0_pay27 v139 v140) (k0_pay28 v139 v140) (k0_pay29 v139 v140))
      (ix3 (Attn.grp k) 0 q) = Attn.exponentWord (Attn.peak (Attn.probK factor fun k => v139 (ix2 k q)) (Attn.grp k))
        (Attn.scaled (Attn.peak (Attn.probK factor fun k => v139 (ix2 k q)) (Attn.grp k))) := by
    rw [words_apply, search_eq, hp]
    rfl
  have hk : (⟨k.val / 32 * 32 + k.val % 32, by omega⟩ : Fin 640) = k := Fin.ext (Nat.div_add_mod' _ _)
  have hv : k0_pay25 v139 v140 (ix3 (Attn.grp k) ⟨k.val % 32, by omega⟩ q)
      = Attn.probK factor (fun k => v139 (ix2 k q)) k := by
    rw [probs_eq v139 v140 q h]
    exact congrArg _ hk
  rw [quants_apply]
  change min _ (max _ (k0_pay25 v139 v140 (ix3 (Attn.grp k) ⟨k.val % 32, _⟩ q)
    * Attn.field (127#32 - words _ _ (ix3 (Attn.grp k) 0 q)))) * Attn.field (words _ _ (ix3 (Attn.grp k) 0 q) + 127#32) = _
  rw [hw, hv]
  rfl

variable (x0 : Vec Ideal S1x1x640x128 .fp8e4m3) (x1 : Vec Ideal S1x1x4x640 .i8) (x2 : Vec Ideal S1x1x640x128 .fp8e4m3)
  (x3 : Vec Ideal S1x1x4x640 .i8) (x4 : Vec Ideal S1x1x640x128 .fp8e4m3) (x5 : Vec Ideal S1x1x20x128 .i8)
  (x6 : Vec Ideal S1x1x640 .i32) (x7 : Vec Ideal S1x640x1 .i32)

/-- The block written, at query `q` and lane `d`: the attention of the head whose queries, keys, values and documents the
    operands' blocks hold. -/
theorem block_apply (Q K V : Fin 640 → Fin 128 → EReal) (seg : Fin 640 → BitVec 32)
    (hq : ∀ q d, x0 (ix4 0 0 q d) * Attn.field ((x1 (ix4 0 0 ⟨d.val / 32, by omega⟩ q) : BitVec 8).setWidth 32) = Q q d)
    (hk : ∀ k d, x2 (ix4 0 0 k d) * Attn.field ((x3 (ix4 0 0 ⟨d.val / 32, by omega⟩ k) : BitVec 8).setWidth 32) = K k d)
    (hv : ∀ k d, x4 (ix4 0 0 k d) * Attn.field ((x5 (ix4 0 0 ⟨k.val / 32, by omega⟩ d) : BitVec 8).setWidth 32) = V k d)
    (hr : ∀ q, x6 (ix3 0 0 q) = seg q) (hc : ∀ k, x7 (ix3 0 k 0) = seg k) (q : Fin 640) (d : Fin 128) :
    out0_8 x0 x1 x2 x3 x4 x5 x6 x7 (ix3 0 q d) = Attn.attendK factor Q K V seg q d := by
  have hs : ∀ k q, k0_pay33 x0 x1 x2 x3 x4 x5 x6 x7 (ix2 k q) = Attn.scoreK Q K seg q k := by
    intro k q
    unfold k0_pay33 k0_pay32 k0_pay31
    simp (discharger := decide) only [r0_0, r0_1, r0_3, r0_4, View.ld_unit_lit]
    rw [scores_apply]
    simp only [query_apply, key_apply, hq, hk, hr, hc]
    rfl
  have ht : k0_pay34 x0 x1 x2 x3 x4 x5 x6 x7 (ix1 q) = Attn.top fun k => k0_pay33 x0 x1 x2 x3 x4 x5 x6 x7 (ix2 k q) := by
    unfold k0_pay34
    rw [tops_apply]
    rfl
  frame_out
  rw [pay1_eq, outs_apply]
  unfold Attn.attendK
  refine Finset.sum_congr rfl fun k _ => ?_
  rw [quants_eq _ _ q ht, value_apply, hv, funext fun k => hs k q]

end Cert.KernelIdeal.Block
end
-- ==== Proof.Heads.lean ====
/- The operands of one head, out of the seven argument arrays, in both programs' words: a code times its scale, the scale
   read as a power of two (the reference) or as a float32's exponent field (the kernel). -/
module

public import proofs.«01_k».proof.Proof.Attention
public import Idealize.ShloMosaic.Lib.Pointwise

@[expose] public section

set_option maxRecDepth 16384

noncomputable section

namespace Cert.Attn

open Idealize.ShloMosaic

/-- The query codes' array. -/
abbrev QCodes := Vec Ideal (⟨4, ![3, 640, 14, 128]⟩ : Shape) .fp8e4m3
/-- The query scales' array. -/
abbrev QScales := Vec Ideal (⟨4, ![3, 640, 14, 4]⟩ : Shape) .i8
/-- The key codes' array; the values' codes have its shape too. -/
abbrev KCodes := Vec Ideal (⟨4, ![3, 640, 2, 128]⟩ : Shape) .fp8e4m3
/-- The key scales' array. -/
abbrev KScales := Vec Ideal (⟨4, ![3, 640, 2, 4]⟩ : Shape) .i8
/-- The value scales' array. -/
abbrev VScales := Vec Ideal (⟨4, ![3, 20, 2, 128]⟩ : Shape) .i8
/-- The documents' array. -/
abbrev Docs := Vec Ideal (⟨2, ![3, 640]⟩ : Shape) .i32
/-- The result's array. -/
abbrev Out := Vec Ideal (⟨3, ![3, 640, 1792]⟩ : Shape) .bf16

/-- The queries of head `h`, the scale byte read by `f`. -/
def queries (f : BitVec 8 → EReal) (x : QCodes) (s : QScales) (b : Fin 3) (h : Fin 14) (q : Fin 640) (d : Fin 128) : EReal :=
  (x (ix4 b q h d) : EReal) * f (s (ix4 b q h ⟨d.val / 32, by omega⟩))

/-- The keys of key head `g`. -/
def keys (f : BitVec 8 → EReal) (x : KCodes) (s : KScales) (b : Fin 3) (g : Fin 2) (k : Fin 640) (d : Fin 128) : EReal :=
  (x (ix4 b k g d) : EReal) * f (s (ix4 b k g ⟨d.val / 32, by omega⟩))

/-- The values of key head `g`. -/
def vals (f : BitVec 8 → EReal) (x : KCodes) (s : VScales) (b : Fin 3) (g : Fin 2) (k : Fin 640) (d : Fin 128) : EReal :=
  (x (ix4 b k g d) : EReal) * f (s (ix4 b ⟨k.val / 32, by omega⟩ g d))

/-- The documents of the batch element `b`. -/
def docs (x : Docs) (b : Fin 3) (k : Fin 640) : BitVec 32 := x (ix2 b k)

/-- A scale byte read as a float32's exponent field. -/
def byteField (s : BitVec 8) : EReal := field (s.setWidth 32)

/-- The head of a lane of the result. -/
def headAt (x : Fin 1792) : Fin 14 := ⟨x.val / 128, by omega⟩

/-- The key head of a lane of the result. -/
def kheadAt (x : Fin 1792) : Fin 2 := ⟨x.val / 128 / 7, by omega⟩

/-- The lane within its head of a lane of the result. -/
def laneAt (x : Fin 1792) : Fin 128 := ⟨x.val % 128, by omega⟩

variable (qc : QCodes) (qs : QScales) (kc : KCodes) (ks : KScales) (vc : KCodes) (vs : VScales) (dc : Docs)

/-- The kernel's result at query `q` and lane `x`: the attention of the lane's head, the key head being every 7 heads'. -/
def attendKAt (c : EReal) (b : Fin 3) (q : Fin 640) (x : Fin 1792) : EReal :=
  attendK c (queries byteField qc qs b (headAt x)) (keys byteField kc ks b (kheadAt x)) (vals byteField vc vs b (kheadAt x))
    (docs dc b) q (laneAt x)

/-- The reference's result at query `q` and lane `x`. -/
def attendAt (b : Fin 3) (q : Fin 640) (x : Fin 1792) : EReal :=
  attend (queries byteScale qc qs b (headAt x)) (keys byteScale kc ks b (kheadAt x)) (vals byteScale vc vs b (kheadAt x))
    (docs dc b) q (laneAt x)

/-- The kernel's result. -/
def resultK (c : EReal) : Out := fun i => attendKAt qc qs kc ks vc vs dc c (i 0) (i 1) (i 2)

/-- The reference's result. -/
def result : Out := fun i => attendAt qc qs kc ks vc vs dc (i 0) (i 1) (i 2)

/-- A scale byte of a normal float32. -/
def Normal (s : BitVec 8) : Prop := 1 ≤ s.toNat ∧ s.toNat ≤ 254

/-- Where every scale byte is a normal float32's exponent, the two results are one array. -/
theorem resultK_eq (hq : ∀ i, Normal (qs i)) (hk : ∀ i, Normal (ks i)) (hv : ∀ i, Normal (vs i)) :
    resultK qc qs kc ks vc vs dc (((Real.log 2)⁻¹ : ℝ) : EReal) = result qc qs kc ks vc vs dc := by
  have e : ∀ s : BitVec 8, Normal s → byteField s = byteScale s := fun s h => byte_eq s h.1 h.2
  have eq : queries byteField qc qs = queries byteScale qc qs := by
    funext b h q d
    unfold queries
    rw [e _ (hq _)]
  have ek : keys byteField kc ks = keys byteScale kc ks := by
    funext b g k d
    unfold keys
    rw [e _ (hk _)]
  have ev : vals byteField vc vs = vals byteScale vc vs := by
    funext b g k d
    unfold vals
    rw [e _ (hv _)]
  have ha : ∀ b q x, attendKAt qc qs kc ks vc vs dc (((Real.log 2)⁻¹ : ℝ) : EReal) b q x = attendAt qc qs kc ks vc vs dc b q x := by
    intro b q x
    unfold attendKAt attendAt
    rw [attendK_eq, eq, ek, ev]
  funext i
  exact ha _ _ _

end Cert.Attn
end
-- ==== Proof.KernelArray.lean ====
/- What the kernel's result array holds when the run ends: every head's attention at its own lanes. -/
module

public import proofs.«01_k».proof.Proof.KernelBlock
public import proofs.«01_k».proof.Proof.Heads
public import Idealize.ShloMosaic.Lib.Claim

@[expose] public section

set_option maxRecDepth 16384

noncomputable section

namespace Cert.KernelIdeal.Array

open Cert.KernelIdeal Cert.KernelIdeal.Gen Cert.KernelIdeal.Block Idealize.ShloMosaic Idealize.ShloMosaic.TcCoe
open Idealize.SL.Sem

variable (m : (ℓ : Loc nD τ sig) → Buf (Elt Ideal) ℓ)

/-- Every window's block index at the grid point of batch element `t / 14` and head `t % 14`. -/
theorem idx : ∀ t : Fin cfg0.N,
    win0_0.index t = ![t.val / 14, t.val % 14, 0, 0] ∧ win0_1.index t = ![t.val / 14, t.val % 14, 0, 0]
    ∧ win0_2.index t = ![t.val / 14, t.val % 14 / 7, 0, 0] ∧ win0_3.index t = ![t.val / 14, t.val % 14 / 7, 0, 0]
    ∧ win0_4.index t = ![t.val / 14, t.val % 14 / 7, 0, 0] ∧ win0_5.index t = ![t.val / 14, t.val % 14 / 7, 0, 0]
    ∧ win0_6.index t = ![t.val / 14, 0, 0] ∧ win0_7.index t = ![t.val / 14, 0, 0]
    ∧ win0_8.index t = ![t.val / 14, 0, t.val % 14] :=
  (by decide +kernel : ∀ t : Fin grid0.N, _)

/-- The batch element of a grid point. -/
def bat (t : Fin cfg0.N) : Fin 3 := ⟨t.val / 14, by have : t.val < 42 := t.isLt; omega⟩

/-- The head of a grid point. -/
def head (t : Fin cfg0.N) : Fin 14 := ⟨t.val % 14, by omega⟩

/-- The key head of a grid point. -/
def khead (t : Fin cfg0.N) : Fin 2 := ⟨t.val % 14 / 7, by omega⟩

/-- The query codes' block. -/
theorem iblk0 (c : Dev nD) (t : Fin cfg0.N) (q : Fin 640) (d : Fin 128) :
    iblk m c 0 t (ix4 0 0 q d) = m ((c : Thread nD τ).loc main_arg0) (ix4 (bat t) q (head t) d) := by
  blk_ext! [iblk, V, idx t, bat, head]

/-- The query scales' block. -/
theorem iblk1 (c : Dev nD) (t : Fin cfg0.N) (g : Fin 4) (q : Fin 640) :
    iblk m c 1 t (ix4 0 0 g q) = m ((c : Thread nD τ).loc main_arg1) (ix4 (bat t) q (head t) g) := by
  blk_ext! [iblk, V, idx t, bat, head]

/-- The key codes' block. -/
theorem iblk2 (c : Dev nD) (t : Fin cfg0.N) (q : Fin 640) (d : Fin 128) :
    iblk m c 2 t (ix4 0 0 q d) = m ((c : Thread nD τ).loc main_arg2) (ix4 (bat t) q (khead t) d) := by
  blk_ext! [iblk, V, idx t, bat, khead]

/-- The key scales' block. -/
theorem iblk3 (c : Dev nD) (t : Fin cfg0.N) (g : Fin 4) (q : Fin 640) :
    iblk m c 3 t (ix4 0 0 g q) = m ((c : Thread nD τ).loc main_arg3) (ix4 (bat t) q (khead t) g) := by
  blk_ext! [iblk, V, idx t, bat, khead]

/-- The value codes' block. -/
theorem iblk4 (c : Dev nD) (t : Fin cfg0.N) (q : Fin 640) (d : Fin 128) :
    iblk m c 4 t (ix4 0 0 q d) = m ((c : Thread nD τ).loc main_arg4) (ix4 (bat t) q (khead t) d) := by
  blk_ext! [iblk, V, idx t, bat, khead]

/-- The value scales' block. -/
theorem iblk5 (c : Dev nD) (t : Fin cfg0.N) (g : Fin 20) (d : Fin 128) :
    iblk m c 5 t (ix4 0 0 g d) = m ((c : Thread nD τ).loc main_arg5) (ix4 (bat t) g (khead t) d) := by
  blk_ext! [iblk, V, idx t, bat, khead]

/-- The documents' block, by lanes. -/
theorem iblk6 (c : Dev nD) (t : Fin cfg0.N) (q : Fin 640) :
    iblk m c 6 t (ix3 0 0 q) = m ((c : Thread nD τ).loc main_arg6) (ix2 (bat t) q) := by
  blk_ext! [iblk, V, idx t, bat]

/-- The documents' block, by rows. -/
theorem iblk7 (c : Dev nD) (t : Fin cfg0.N) (k : Fin 640) :
    iblk m c 7 t (ix3 0 k 0) = m ((c : Thread nD τ).loc main_arg6) (ix2 (bat t) k) := by
  blk_ext! [iblk, V, idx t, bat]

/-- The lane of the result at which lane `d` of the grid point's head stands. -/
def lane (t : Fin cfg0.N) (d : Fin 128) : Fin 1792 := ⟨t.val % 14 * 128 + d.val, by omega⟩

/-- Where the result's block stands in the result. -/
theorem place (t : Fin cfg0.N) (q : Fin 640) (d : Fin 128) :
    ((cfg0.win 8).blk t).view.emb (ix3 0 q d : S1x640x128.Idx) = (ix3 (bat t) q (lane t d) : S3x640x1792.Idx) := by
  blk_ext [idx t, bat, lane]

/-- One block of the result: the attention of the grid point's head. -/
theorem point (c : Dev nD) (t : Fin cfg0.N) (q : Fin 640) (d : Fin 128) :
    out0_8 (iblk m c 0 t) (iblk m c 1 t) (iblk m c 2 t) (iblk m c 3 t) (iblk m c 4 t) (iblk m c 5 t) (iblk m c 6 t)
      (iblk m c 7 t) (ix3 0 q d) = Attn.attendKAt
    (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) factor (bat t) q (lane t d) := by
  have hh : Attn.headAt (lane t d) = head t := Fin.ext (by simp only [Attn.headAt, lane, head]; omega)
  have hg : Attn.kheadAt (lane t d) = khead t := Fin.ext (by simp only [Attn.kheadAt, lane, khead]; omega)
  have hl : Attn.laneAt (lane t d) = d := Fin.ext (by simp only [Attn.laneAt, lane]; omega)
  unfold Attn.attendKAt
  rw [hh, hg, hl]
  refine block_apply _ _ _ _ _ _ _ _ _ _ _ _ (fun q d => ?_) (fun k d => ?_) (fun k d => ?_) (fun q => ?_) (fun k => ?_) q d
  · rw [iblk0, iblk1]; rfl
  · rw [iblk2, iblk3]; rfl
  · rw [iblk4, iblk5]; rfl
  · rw [iblk6]; rfl
  · rw [iblk7]; rfl

/-- The kernel's result array. -/
theorem array_eq (c : Dev nD) : (dats m 0 c).arrAt 8 cfg0.N = Attn.resultK
    (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) factor := by
  refine (dats m 0 c).arrAt_eq_of_covers 8 _ (by decide +kernel) fun t hf y => ?_
  blk_simp
  rw [after0_8]
  refine (show ∀ y : S1x640x128.Idx, _ = Attn.resultK _ _ _ _ _ _ _ _ (((cfg0.win 8).blk t).view.emb y) from ?_) y
  intro y
  idx_vars y
  obtain rfl : y0 = 0 := Subsingleton.elim _ _
  rw [place]
  exact point m c t y1 y2

end Cert.KernelIdeal.Array
end
-- ==== Proof.ReferenceStages.lean ====
/- The reference's one block in stages, each stage a function of whole arrays, and each stage read at an index. The
   generated values are these stages composed. -/
module

public import proofs.«01_k».proof.Proof.Gen.ReferenceIdeal.Value
public import Idealize.ShloMosaic.Lib.Pipeline.ValueKit

@[expose] public section

set_option maxRecDepth 16384

noncomputable section

namespace Cert.ReferenceIdeal.Stages

open Cert.ReferenceIdeal Cert.ReferenceIdeal.Gen Idealize.ShloMosaic

/-! ## The stages -/

/-- The masked scores of every query against every key. -/
def scores (v11 : FVec Ideal S3x14x640x128 .bf16) (v23 : FVec Ideal S3x2x640x128 .bf16) (v46 : Vec Ideal S3x1x640x1 .i32)
    (v48 : Vec Ideal S3x1x1x640 .i32) : FVec Ideal S3x14x640x640 .f32 :=
  have v36 : FVec Ideal S6x4480x128 .bf16 := shapeCast S6x4480x128 v11 shapeCasts_S3x14x640x128_S6x4480x128
  have v37 : FVec Ideal S6x640x128 .bf16 := shapeCast S6x640x128 v23 shapeCasts_S3x2x640x128_S6x640x128
  have cst : FVec Ideal S6x4480x640 .f32 := constant S6x4480x640 .f32 0x00000000#32
  have v39 : FVec Ideal S6x4480x640 .f32 := matmul dot_S6x4480x128_S6x640x128_S6x4480x640_2_2_1_1_0_0 none v36 v37 cst
  have cst_25 : Ideal .f32 := Scalar.ofBits .f32 0x3DB504F3#32
  have v40 : FVec Ideal S6x4480x640 .f32 := broadcast S6x4480x640 cst_25
  have v41 : FVec Ideal S6x4480x640 .f32 := mulf v39 v40
  have v42 : FVec Ideal S3x14x640x640 .f32 := shapeCast S3x14x640x640 v41 shapeCasts_S6x4480x640_S3x14x640x640
  have v43 : IVec S3x14x640x640 32 := iota .tc S3x14x640x640 32 [2] iota_S3x14x640x640_d2_w32
  have v44 : IVec S3x14x640x640 32 := iota .tc S3x14x640x640 32 [3] iota_S3x14x640x640_d3_w32
  have v45 : IVec S3x14x640x640 1 := cmpi .sle v44 v43
  have v47 : IVec S3x1x640x1 32 := shapeCast S3x1x640x1 v46 shapeCasts_S3x1x640x1_S3x1x640x1
  have v49 : IVec S3x1x1x640 32 := shapeCast S3x1x1x640 v48 shapeCasts_S3x1x1x640_S3x1x1x640
  have v50 : IVec S3x1x640x640 32 := broadcastTo S3x1x640x640 v47 broadcasts_S3x1x640x1_S3x1x640x640
  have v51 : IVec S3x1x640x640 32 := broadcastTo S3x1x640x640 v49 broadcasts_S3x1x1x640_S3x1x640x640
  have v52 : IVec S3x1x640x640 1 := cmpi .eq v50 v51
  have v53 : IVec S3x14x640x640 1 := broadcastTo S3x14x640x640 v52 broadcasts_S3x1x640x640_S3x14x640x640
  have v54 : IVec S3x14x640x640 1 := andi v45 v53
  have cst_34 : Ideal .f32 := Scalar.ofBits .f32 0xFF800000#32
  have v55 : FVec Ideal S3x14x640x640 .f32 := broadcast S3x14x640x640 cst_34
  select v54 v42 v55

/-- The greatest score of every query. -/
def tops (v56 : FVec Ideal S3x14x640x640 .f32) : FVec Ideal S3x14x640 .f32 :=
  multiReduction .maximumf [3] S3x14x640 v56 0xFF800000#32 reduces_S3x14x640x640_S3x14x640 (.inl rfl) rfl

/-- The exponentials of the scores less the query's greatest. -/
def exps (v56 : FVec Ideal S3x14x640x640 .f32) (v57 : FVec Ideal S3x14x640 .f32) : FVec Ideal S3x14x640x640 .f32 :=
  have cst_36 : Ideal .f32 := Scalar.ofBits .f32 0xFF800000#32
  have v58 : FVec Ideal S3x14x640 .f32 := broadcast S3x14x640 cst_36
  have v59 : FVec Ideal S3x14x640 .f32 := maximumf v58 v57
  have v60 : FVec Ideal S3x14x640x1 .f32 := shapeCast S3x14x640x1 v59 shapeCasts_S3x14x640_S3x14x640x1
  have v61 : FVec Ideal S3x14x640x640 .f32 := broadcastTo S3x14x640x640 v60 broadcasts_S3x14x640x1_S3x14x640x640
  have v62 : FVec Ideal S3x14x640x640 .f32 := subf v56 v61
  exp v62

/-- The exponentials over their row's sum, cut into groups of 32 keys. -/
def probs (v63 : FVec Ideal S3x14x640x640 .f32) : FVec Ideal S3x14x640x20x32 .f32 :=
  have v64 : FVec Ideal S3x14x640 .f32 := multiReduction .add [3] S3x14x640 v63 0x00000000#32 reduces_S3x14x640x640_S3x14x640 (.inl rfl) rfl
  have v65 : FVec Ideal S3x14x640x1 .f32 := shapeCast S3x14x640x1 v64 shapeCasts_S3x14x640_S3x14x640x1
  have v66 : FVec Ideal S3x14x640x640 .f32 := broadcastTo S3x14x640x640 v65 broadcasts_S3x14x640x1_S3x14x640x640
  have v67 : FVec Ideal S3x14x640x640 .f32 := divf v63 v66
  shapeCast S3x14x640x20x32 v67 shapeCasts_S3x14x640x640_S3x14x640x20x32

/-- The greatest probability of every group. -/
def peaks (v68 : FVec Ideal S3x14x640x20x32 .f32) : FVec Ideal S3x14x640x20x1 .f32 :=
  have v69 : FVec Ideal S3x14x640x20 .f32 := multiReduction .maximumf [4] S3x14x640x20 v68 0xFF800000#32 reduces_S3x14x640x20x32_S3x14x640x20 (.inl rfl) rfl
  shapeCast S3x14x640x20x1 v69 shapeCasts_S3x14x640x20_S3x14x640x20x1

/-- The logarithm to base two of the peaks over 448. -/
def logs (v70 : FVec Ideal S3x14x640x20x1 .f32) : FVec Ideal S3x14x640x20x1 .f32 :=
  have cst_39 : Ideal .f32 := Scalar.ofBits .f32 0x3B124925#32
  have v71 : FVec Ideal S3x14x640x20x1 .f32 := broadcast S3x14x640x20x1 cst_39
  have v72 : FVec Ideal S3x14x640x20x1 .f32 := mulf v70 v71
  have v73 : FVec Ideal S3x14x640x20x1 .f32 := log v72
  have cst_40 : Ideal .f32 := Named.named κ "log2e" 0x3FB8AA3B#32
  have v74 : FVec Ideal S3x14x640x20x1 .f32 := broadcast S3x14x640x20x1 cst_40
  mulf v73 v74

/-- The exponent of every group. -/
def exponents (v70 v75 : FVec Ideal S3x14x640x20x1 .f32) : FVec Ideal S3x14x640x20x1 .f32 :=
  have v76 : FVec Ideal S3x14x640x20x1 .f32 := floor v75
  have cst_41 : Ideal .f32 := Scalar.ofBits .f32 0x3F800000#32
  have v77 : FVec Ideal S3x14x640x20x1 .f32 := broadcast S3x14x640x20x1 cst_41
  have v78 : FVec Ideal S3x14x640x20x1 .f32 := addf v76 v77
  have cst_42 : Ideal .f32 := Scalar.ofBits .f32 0xC2FC0000#32
  have v79 : FVec Ideal S3x14x640x20x1 .f32 := broadcast S3x14x640x20x1 cst_42
  have v80 : FVec Ideal S3x14x640x20x1 .f32 := maximumf v78 v79
  have cst_43 : Ideal .f32 := Scalar.ofBits .f32 0x00000000#32
  have v81 : FVec Ideal S3x14x640x20x1 .f32 := broadcast S3x14x640x20x1 cst_43
  have v82 : IVec S3x14x640x20x1 1 := cmpf .oeq v70 v81
  have cst_44 : Ideal .f32 := Scalar.ofBits .f32 0x00000000#32
  have v83 : FVec Ideal S3x14x640x20x1 .f32 := broadcast S3x14x640x20x1 cst_44
  select v82 v83 v80

/-- The quantised probabilities. -/
def quants (v68 : FVec Ideal S3x14x640x20x32 .f32) (v84 : FVec Ideal S3x14x640x20x1 .f32) : FVec Ideal S3x14x640x20x32 .bf16 :=
  have cst_45 : Ideal .f32 := Scalar.ofBits .f32 0x00000000#32
  have v85 : FVec Ideal S3x14x640x20x1 .f32 := broadcast S3x14x640x20x1 cst_45
  have v86 : FVec Ideal S3x14x640x20x1 .f32 := subf v85 v84
  have v87 : FVec Ideal S3x14x640x20x1 .f32 := exp2 v86
  have v88 : FVec Ideal S3x14x640x20x32 .f32 := broadcastTo S3x14x640x20x32 v87 broadcasts_S3x14x640x20x1_S3x14x640x20x32
  have v89 : FVec Ideal S3x14x640x20x32 .f32 := mulf v68 v88
  have cst_46 : Ideal .f32 := Scalar.ofBits .f32 0xC3E00000#32
  have cst_47 : Ideal .f32 := Scalar.ofBits .f32 0x43E00000#32
  have v90 : FVec Ideal S3x14x640x20x32 .f32 := broadcast S3x14x640x20x32 cst_46
  have v91 : FVec Ideal S3x14x640x20x32 .f32 := maximumf v90 v89
  have v92 : FVec Ideal S3x14x640x20x32 .f32 := broadcast S3x14x640x20x32 cst_47
  have v93 : FVec Ideal S3x14x640x20x32 .f32 := minimumf v92 v91
  have v94 : FVec Ideal S3x14x640x20x32 .fp8e4m3 := truncf .fp8e4m3 v93 bitsLt_fp8e4m3_f32
  have v95 : FVec Ideal S3x14x640x20x32 .bf16 := extf .bf16 v94 bitsLt_fp8e4m3_bf16
  have v96 : FVec Ideal S3x14x640x20x1 .f32 := exp2 v84
  have v97 : FVec Ideal S3x14x640x20x1 .bf16 := truncf .bf16 v96 bitsLt_bf16_f32
  have v98 : FVec Ideal S3x14x640x20x32 .bf16 := broadcastTo S3x14x640x20x32 v97 broadcasts_S3x14x640x20x1_S3x14x640x20x32
  mulf v95 v98

/-- The product of the quantised probabilities with the values, laid out head by head along the lanes. -/
def outs (v38 : FVec Ideal S6x640x128 .bf16) (v99 : FVec Ideal S3x14x640x20x32 .bf16) : FVec Ideal S3x640x1792 .bf16 :=
  have v100 : FVec Ideal S6x4480x640 .bf16 := shapeCast S6x4480x640 v99 shapeCasts_S3x14x640x20x32_S6x4480x640
  have cst_48 : FVec Ideal S6x4480x128 .f32 := constant S6x4480x128 .f32 0x00000000#32
  have v101 : FVec Ideal S6x4480x128 .f32 := matmul dot_S6x4480x640_S6x640x128_S6x4480x128_2_1_1_2_0_0 none v100 v38 cst_48
  have v102 : FVec Ideal S6x4480x128 .bf16 := truncf .bf16 v101 bitsLt_bf16_f32
  have v103 : FVec Ideal S3x14x640x128 .bf16 := shapeCast S3x14x640x128 v102 shapeCasts_S6x4480x128_S3x14x640x128
  have v104 : FVec Ideal S3x640x14x128 .bf16 := transpose S3x640x14x128 [0, 2, 1, 3] v103 transposes_S3x14x640x128_p0_2_1_3_S3x640x14x128
  shapeCast S3x640x1792 v104 shapeCasts_S3x640x14x128_S3x640x1792

/-! ## The generated values are the stages -/

variable (v11 : FVec Ideal S3x14x640x128 .bf16) (v23 : FVec Ideal S3x2x640x128 .bf16) (v46 : Vec Ideal S3x1x640x1 .i32)
  (v48 : Vec Ideal S3x1x1x640 .i32)

/-- The probabilities. -/
theorem pay7_eq : k0_pay7 v11 v23 v46 v48 = probs (exps (scores v11 v23 v46 v48) (tops (scores v11 v23 v46 v48))) := rfl

/-- The peaks. -/
theorem pay8_eq : k0_pay8 v11 v23 v46 v48 = peaks (k0_pay7 v11 v23 v46 v48) := rfl

/-- The logarithms. -/
theorem pay9_eq : k0_pay9 v11 v23 v46 v48 = logs (k0_pay8 v11 v23 v46 v48) := rfl

/-- The block written. -/
theorem pay1_eq (v38 : FVec Ideal S6x640x128 .bf16) (v68 : FVec Ideal S3x14x640x20x32 .f32) (v70 v75 : FVec Ideal S3x14x640x20x1 .f32) :
    k0_pay1 v38 v68 v70 v75 = outs v38 (quants v68 (exponents v70 v75)) := rfl

/-! ## The stages at an index -/

/-- The score of query `q` against key `k` in head `h`, whose key head is `h / 7`. -/
theorem scores_apply (b : Fin 3) (h : Fin 14) (q k : Fin 640) :
    scores v11 v23 v46 v48 (ix4 b h q k) = Scalar.select
      (IntOp.andi (IntOp.cmpi .sle (BitVec.ofNat 32 k.val) (BitVec.ofNat 32 q.val))
        (IntOp.cmpi .eq (v46 (ix4 b 0 q 0)) (v48 (ix4 b 0 0 k))))
      ((∑ x : Fin 128, v11 (ix4 b h q x) * v23 (ix4 b ⟨(b.val * 2 + h.val / 7) % 2, by omega⟩ k x)) * Ideal.ofBits .f32 0x3DB504F3#32)
      (Ideal.ofBits .f32 0xFF800000#32) := by
  pointwise [scores]

/-- The greatest score of a query. -/
theorem tops_apply (v56 : FVec Ideal S3x14x640x640 .f32) (b : Fin 3) (h : Fin 14) (q : Fin 640) :
    tops v56 (ix3 b h q) = Finset.univ.fold max (Ideal.ofBits .f32 0xFF800000#32) fun k : Fin 640 => v56 (ix4 b h q k) := by
  pointwise [tops]

/-- The exponential of a score less its query's greatest. -/
theorem exps_apply (v56 : FVec Ideal S3x14x640x640 .f32) (v57 : FVec Ideal S3x14x640 .f32) (b : Fin 3) (h : Fin 14) (q k : Fin 640) :
    exps v56 v57 (ix4 b h q k) = Ideal.exp (v56 (ix4 b h q k) - max (Ideal.ofBits .f32 0xFF800000#32) (v57 (ix3 b h q))) := by
  pointwise [exps]

/-- The probability of key `j` of group `g`. -/
theorem probs_apply (v63 : FVec Ideal S3x14x640x640 .f32) (b : Fin 3) (h : Fin 14) (q : Fin 640) (g : Fin 20) (j : Fin 32) :
    probs v63 (ix5 b h q g j) = Ideal.div (v63 (ix4 b h q ⟨g.val * 32 + j.val, by omega⟩)) (∑ k : Fin 640, v63 (ix4 b h q k)) := by
  pointwise [probs]

/-- The greatest probability of group `g`. -/
theorem peaks_apply (v68 : FVec Ideal S3x14x640x20x32 .f32) (b : Fin 3) (h : Fin 14) (q : Fin 640) (g : Fin 20) :
    peaks v68 (ix5 b h q g 0) = Finset.univ.fold max (Ideal.ofBits .f32 0xFF800000#32) fun j : Fin 32 => v68 (ix5 b h q g j) := by
  pointwise [peaks]

/-- The logarithm of a peak. -/
theorem logs_apply (v70 : FVec Ideal S3x14x640x20x1 .f32) (i : S3x14x640x20x1.Idx) :
    logs v70 i = Ideal.log (v70 i * Ideal.ofBits .f32 0x3B124925#32) * Named.named (F := Ideal) κ "log2e" (φ := .f32) 0x3FB8AA3B#32 := by
  rfl

/-- The exponent of a group. -/
theorem exponents_apply (v70 v75 : FVec Ideal S3x14x640x20x1 .f32) (i : S3x14x640x20x1.Idx) :
    exponents v70 v75 i = if v70 i = 0 then 0 else
      max (Ideal.liftRound Int.floor (v75 i) + 1) (Ideal.ofBits .f32 0xC2FC0000#32) := by
  pointwise [exponents]

/-- A quantised probability. -/
theorem quants_apply (v68 : FVec Ideal S3x14x640x20x32 .f32) (v84 : FVec Ideal S3x14x640x20x1 .f32)
    (b : Fin 3) (h : Fin 14) (q : Fin 640) (g : Fin 20) (j : Fin 32) :
    quants v68 v84 (ix5 b h q g j) = min (Ideal.ofBits .f32 0x43E00000#32) (max (Ideal.ofBits .f32 0xC3E00000#32)
      (v68 (ix5 b h q g j) * Ideal.exp2 (0 - v84 (ix5 b h q g 0)))) * Ideal.exp2 (v84 (ix5 b h q g 0)) := by
  pointwise [quants]
  rfl

/-- The output of query `q` at lane `x` of all heads' lanes: head `x / 128`, lane `x % 128` of it. -/
theorem outs_apply (v38 : FVec Ideal S6x640x128 .bf16) (v99 : FVec Ideal S3x14x640x20x32 .bf16) (b : Fin 3) (q : Fin 640) (x : Fin 1792) :
    outs v38 v99 (ix3 b q x) = ∑ k : Fin 640,
      v99 (ix5 b ⟨x.val / 128, by omega⟩ q ⟨k.val / 32, by omega⟩ ⟨k.val % 32, by omega⟩)
        * v38 (ix3 ⟨b.val * 2 + x.val / 128 / 7, by omega⟩ k ⟨x.val % 128, by omega⟩) := by
  pointwise [outs]
  refine Finset.sum_congr rfl fun k _ => ?_
  refine congrArg (fun h : Fin 14 => v99 (ix5 b h q ⟨k.val / 32, by omega⟩ ⟨k.val % 32, by omega⟩) * _) ?_
  apply Fin.ext
  dsimp only
  omega

/-! ## The operands at an index -/

/-- A query entry: its code times its scale. -/
theorem pay2_apply (v0 : Vec Ideal S3x14x640x128 .fp8e4m3) (v3 : Vec Ideal S3x14x640x128 .i8) (i : S3x14x640x128.Idx) :
    k0_pay2 v0 v3 i = v0 i * Ideal.exp2 (((((v3 i : BitVec 8).setWidth 32 - 127#32).toInt : ℝ) : ℝ) : EReal) := by
  pointwise [k0_pay2]
  rfl

/-- A key entry: its code times its scale. -/
theorem pay3_apply (v0 : Vec Ideal S3x2x640x128 .fp8e4m3) (v3 : Vec Ideal S3x2x640x128 .i8) (i : S3x2x640x128.Idx) :
    k0_pay3 v0 v3 i = v0 i * Ideal.exp2 (((((v3 i : BitVec 8).setWidth 32 - 127#32).toInt : ℝ) : ℝ) : EReal) := by
  pointwise [k0_pay3]
  rfl

/-- A value entry: its code times its scale. -/
theorem pay6_apply (v0 : Vec Ideal S3x2x640x128 .fp8e4m3) (v3 : Vec Ideal S3x2x640x128 .i8) (n : Fin 6) (k : Fin 640) (d : Fin 128) :
    k0_pay6 (k0_pay4 v0) (k0_pay5 v3) (ix3 n k d) = v0 (ix4 ⟨n.val / 2, by omega⟩ ⟨n.val % 2, by omega⟩ k d)
      * Ideal.exp2 (((((v3 (ix4 ⟨n.val / 2, by omega⟩ ⟨n.val % 2, by omega⟩ k d) : BitVec 8).setWidth 32 - 127#32).toInt : ℝ) : ℝ) : EReal) := by
  pointwise [k0_pay6, k0_pay5, k0_pay4]
  rfl

end Cert.ReferenceIdeal.Stages
end
-- ==== Proof.ReferenceBlock.lean ====
/- What the reference's one block computes: the attention of every head. -/
module

public import proofs.«01_k».proof.Proof.ReferenceStages
public import proofs.«01_k».proof.Proof.Attention

@[expose] public section

set_option maxRecDepth 16384

noncomputable section

namespace Cert.ReferenceIdeal.Block

open Cert.ReferenceIdeal Cert.ReferenceIdeal.Gen Cert.ReferenceIdeal.Stages Idealize.ShloMosaic

/-- The named constant is `1 / log 2`. -/
theorem named_eq : Named.named (F := Ideal) κ "log2e" (φ := .f32) 0x3FB8AA3B#32 = (((Real.log 2)⁻¹ : ℝ) : EReal) :=
  IdealRules.named_const.ideal_named_scalar _ _ _ _ rfl

variable (v11 : FVec Ideal S3x14x640x128 .bf16) (v23 : FVec Ideal S3x2x640x128 .bf16) (v46 : Vec Ideal S3x1x640x1 .i32)
  (v48 : Vec Ideal S3x1x1x640 .i32)

/-- A group's probabilities: the softmax of the query's scores. -/
theorem probs_eq (b : Fin 3) (h : Fin 14) (q : Fin 640) (s : Fin 640 → EReal)
    (hs : ∀ k, scores v11 v23 v46 v48 (ix4 b h q k) = s k) (g : Fin 20) (j : Fin 32) :
    k0_pay7 v11 v23 v46 v48 (ix5 b h q g j) = Attn.prob s ⟨g.val * 32 + j.val, by omega⟩ := by
  rw [pay7_eq, probs_apply]
  simp only [exps_apply, tops_apply, hs]
  rfl

/-- A group's exponent. -/
theorem exponents_eq (v70 : FVec Ideal S3x14x640x20x1 .f32) (i : S3x14x640x20x1.Idx) :
    exponents v70 (logs v70) i = Attn.exponent (v70 i) (Attn.scaled (v70 i)) := by
  rw [exponents_apply, logs_apply, named_eq, Attn.ofBits_neg126]
  rfl

/-- A quantised probability of query `q` of head `h`. -/
theorem quants_eq (b : Fin 3) (h : Fin 14) (q : Fin 640) (s : Fin 640 → EReal)
    (hs : ∀ k, scores v11 v23 v46 v48 (ix4 b h q k) = s k) (k : Fin 640) :
    quants (k0_pay7 v11 v23 v46 v48) (exponents (k0_pay8 v11 v23 v46 v48) (k0_pay9 v11 v23 v46 v48))
        (ix5 b h q ⟨k.val / 32, by omega⟩ ⟨k.val % 32, by omega⟩)
      = Attn.quantised (Attn.prob s) k := by
  have hp : k0_pay8 v11 v23 v46 v48 (ix5 b h q (Attn.grp k) 0) = Attn.peak (Attn.prob s) (Attn.grp k) := by
    rw [pay8_eq, peaks_apply]
    simp only [probs_eq v11 v23 v46 v48 b h q s hs]
    rfl
  have hk : (⟨k.val / 32 * 32 + k.val % 32, by omega⟩ : Fin 640) = k := Fin.ext (Nat.div_add_mod' _ _)
  have hv : k0_pay7 v11 v23 v46 v48 (ix5 b h q (Attn.grp k) ⟨k.val % 32, by omega⟩) = Attn.prob s k := by
    rw [probs_eq v11 v23 v46 v48 b h q s hs]
    exact congrArg _ hk
  have he : exponents (k0_pay8 v11 v23 v46 v48) (k0_pay9 v11 v23 v46 v48) (ix5 b h q (Attn.grp k) 0)
      = Attn.exponent (Attn.peak (Attn.prob s) (Attn.grp k)) (Attn.scaled (Attn.peak (Attn.prob s) (Attn.grp k))) := by
    rw [pay9_eq, exponents_eq, hp]
  rw [quants_apply]
  change min _ (max _ (k0_pay7 v11 v23 v46 v48 (ix5 b h q (Attn.grp k) ⟨k.val % 32, _⟩)
    * Ideal.exp2 (0 - exponents _ _ (ix5 b h q (Attn.grp k) 0)))) * Ideal.exp2 (exponents _ _ (ix5 b h q (Attn.grp k) 0)) = _
  rw [he, hv]
  rfl

variable (x0 : Vec Ideal S3x14x640x128 .fp8e4m3) (x1 : Vec Ideal S3x14x640x128 .i8) (x2 : Vec Ideal S3x2x640x128 .fp8e4m3)
  (x3 : Vec Ideal S3x2x640x128 .i8) (x4 : Vec Ideal S3x2x640x128 .fp8e4m3) (x5 : Vec Ideal S3x2x640x128 .i8)
  (x6 : Vec Ideal S3x1x640x1 .i32) (x7 : Vec Ideal S3x1x1x640 .i32)

/-- The block written, at query `q` and lane `x` of all heads' lanes: the attention of head `x / 128` at its lane
    `x % 128`, the head whose queries, keys, values and documents the operands hold at that head and its key head. -/
theorem block_apply (Q K V : Fin 640 → Fin 128 → EReal) (seg : Fin 640 → BitVec 32) (b : Fin 3) (x : Fin 1792)
    (hq : ∀ q d, x0 (ix4 b ⟨x.val / 128, by omega⟩ q d) * Attn.byteScale (x1 (ix4 b ⟨x.val / 128, by omega⟩ q d)) = Q q d)
    (hk : ∀ k d, x2 (ix4 b ⟨x.val / 128 / 7, by omega⟩ k d) * Attn.byteScale (x3 (ix4 b ⟨x.val / 128 / 7, by omega⟩ k d)) = K k d)
    (hv : ∀ k d, x4 (ix4 b ⟨x.val / 128 / 7, by omega⟩ k d) * Attn.byteScale (x5 (ix4 b ⟨x.val / 128 / 7, by omega⟩ k d)) = V k d)
    (hr : ∀ q, x6 (ix4 b 0 q 0) = seg q) (hc : ∀ k, x7 (ix4 b 0 0 k) = seg k) (q : Fin 640) :
    out0_8 x0 x1 x2 x3 x4 x5 x6 x7 (ix3 b q x) = Attn.attend Q K V seg q ⟨x.val % 128, by omega⟩ := by
  have e1 : (⟨(b.val * 2 + x.val / 128 / 7) % 2, by omega⟩ : Fin 2) = ⟨x.val / 128 / 7, by omega⟩ := Fin.ext (by dsimp only; omega)
  have e2 : (⟨(b.val * 2 + x.val / 128 / 7) / 2, by omega⟩ : Fin 3) = b := Fin.ext (by dsimp only; omega)
  have hs : ∀ k, scores (k0_pay10 x0 x1 x2 x3 x4 x5 x6 x7) (k0_pay11 x0 x1 x2 x3 x4 x5 x6 x7) x6 x7
      (ix4 b ⟨x.val / 128, by omega⟩ q k) = Attn.score Q K seg q k := by
    intro k
    unfold k0_pay10 k0_pay11
    simp (discharger := decide) only [r0_0, r0_1, r0_2, r0_3, View.ld_unit_lit]
    rw [scores_apply]
    simp only [pay2_apply, pay3_apply, e1, hr, hc]
    simp only [Attn.byteScale] at hq hk
    simp only [hq, hk]
    rfl
  frame_out
  rw [pay1_eq, outs_apply]
  unfold Attn.attend
  refine Finset.sum_congr rfl fun k _ => ?_
  rw [quants_eq _ _ _ _ _ _ _ _ hs, pay6_apply]
  simp only [e1, e2]
  rw [← hv]
  rfl

end Cert.ReferenceIdeal.Block
end
-- ==== Proof.ReferenceArray.lean ====
/- What the reference's result array holds when the run ends: every head's attention at its own lanes. -/
module

public import proofs.«01_k».proof.Proof.ReferenceBlock
public import proofs.«01_k».proof.Proof.Heads
public import Idealize.ShloMosaic.Lib.Claim

@[expose] public section

set_option maxRecDepth 16384

noncomputable section

namespace Cert.ReferenceIdeal.Array

open Cert.ReferenceIdeal Cert.ReferenceIdeal.Gen Cert.ReferenceIdeal.Block Idealize.ShloMosaic Idealize.ShloMosaic.TcCoe
open Idealize.SL.Sem

variable (m : (ℓ : Loc nD τ sig) → Buf (Elt Ideal) ℓ)

/-- Every window's block at the one grid point stands at the origin. -/
theorem idx : ∀ t : Fin cfg0.N,
    win0_0.index t = ![0, 0, 0, 0] ∧ win0_1.index t = ![0, 0, 0, 0] ∧ win0_2.index t = ![0, 0, 0, 0]
    ∧ win0_3.index t = ![0, 0, 0, 0] ∧ win0_4.index t = ![0, 0, 0, 0] ∧ win0_5.index t = ![0, 0, 0, 0]
    ∧ win0_6.index t = ![0, 0, 0, 0] ∧ win0_7.index t = ![0, 0, 0, 0] :=
  (by decide +kernel : ∀ t : Fin grid0.N, _)

/-- The query codes, heads before rows. -/
theorem iblk0 (c : Dev nD) (b : Fin 3) (h : Fin 14) (q : Fin 640) (d : Fin 128) :
    iblk m c 0 t0_0 (ix4 b h q d) = m ((c : Thread nD τ).loc main_arg0) (ix4 b q h d) := by
  blk_ext! [iblk, V, idx t0_0]

/-- The query scales, one byte to each 32 lanes. -/
theorem iblk1 (c : Dev nD) (b : Fin 3) (h : Fin 14) (q : Fin 640) (d : Fin 128) :
    iblk m c 1 t0_0 (ix4 b h q d) = m ((c : Thread nD τ).loc main_arg1) (ix4 b q h ⟨d.val / 32, by omega⟩) := by
  blk_ext! [iblk, V, idx t0_0]

/-- The key codes, heads before rows. -/
theorem iblk2 (c : Dev nD) (b : Fin 3) (h : Fin 2) (q : Fin 640) (d : Fin 128) :
    iblk m c 2 t0_0 (ix4 b h q d) = m ((c : Thread nD τ).loc main_arg2) (ix4 b q h d) := by
  blk_ext! [iblk, V, idx t0_0]

/-- The key scales, one byte to each 32 lanes. -/
theorem iblk3 (c : Dev nD) (b : Fin 3) (h : Fin 2) (q : Fin 640) (d : Fin 128) :
    iblk m c 3 t0_0 (ix4 b h q d) = m ((c : Thread nD τ).loc main_arg3) (ix4 b q h ⟨d.val / 32, by omega⟩) := by
  blk_ext! [iblk, V, idx t0_0]

/-- The value codes, heads before rows. -/
theorem iblk4 (c : Dev nD) (b : Fin 3) (h : Fin 2) (q : Fin 640) (d : Fin 128) :
    iblk m c 4 t0_0 (ix4 b h q d) = m ((c : Thread nD τ).loc main_arg4) (ix4 b q h d) := by
  blk_ext! [iblk, V, idx t0_0]

/-- The value scales, one byte to each 32 rows. -/
theorem iblk5 (c : Dev nD) (b : Fin 3) (h : Fin 2) (q : Fin 640) (d : Fin 128) :
    iblk m c 5 t0_0 (ix4 b h q d) = m ((c : Thread nD τ).loc main_arg5) (ix4 b ⟨q.val / 32, by omega⟩ h d) := by
  blk_ext! [iblk, V, idx t0_0]

/-- The documents, by rows. -/
theorem iblk6 (c : Dev nD) (b : Fin 3) (q : Fin 640) :
    iblk m c 6 t0_0 (ix4 b 0 q 0) = m ((c : Thread nD τ).loc main_arg6) (ix2 b q) := by
  blk_ext! [iblk, V, idx t0_0]

/-- The documents, by lanes. -/
theorem iblk7 (c : Dev nD) (b : Fin 3) (k : Fin 640) :
    iblk m c 7 t0_0 (ix4 b 0 0 k) = m ((c : Thread nD τ).loc main_arg6) (ix2 b k) := by
  blk_ext! [iblk, V, idx t0_0]

/-- The reference's result at query `q` and lane `x`. -/
theorem point (c : Dev nD) (b : Fin 3) (q : Fin 640) (x : Fin 1792) :
    out0_8 (iblk m c 0 t0_0) (iblk m c 1 t0_0) (iblk m c 2 t0_0) (iblk m c 3 t0_0) (iblk m c 4 t0_0) (iblk m c 5 t0_0)
      (iblk m c 6 t0_0) (iblk m c 7 t0_0) (ix3 b q x) = Attn.attendAt
    (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) b q x := by
  unfold Attn.attendAt
  refine block_apply _ _ _ _ _ _ _ _ _ _ _ _ b x (fun q d => ?_) (fun k d => ?_) (fun k d => ?_) (fun q => ?_) (fun k => ?_) q
  · rw [iblk0, iblk1]; rfl
  · rw [iblk2, iblk3]; rfl
  · rw [iblk4, iblk5]; rfl
  · rw [iblk6]; rfl
  · rw [iblk7]; rfl

/-- The reference's result array. -/
theorem array_eq (c : Dev nD) : (dats m 0 c).arrAt 8 cfg0.N = Attn.result
    (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) := by
  refine (dats m 0 c).arrAt_eq_of_after_last 8 t0_0 (by decide +kernel) _ fun j => ?_
  blk_simp
  rw [after0_8]
  refine (show ∀ j : S3x640x1792.Idx, _ = Attn.result _ _ _ _ _ _ _ j from ?_) j
  intro j
  idx_vars j
  exact point m c j0 j1 j2

end Cert.ReferenceIdeal.Array
end
-- ==== Proof.Scales.lean ====
/- What the precondition says: every scale byte is between 1 and 254, the exponent of a normal float32. -/
module

public import proofs.«01_k».proof.Defs
public import proofs.«01_k».proof.Proof.Heads
public import Idealize.ShloMosaic.Lib.ReduceAll
public import Idealize.ShloMosaic.Lib.StableHlo.Predicate

@[expose] public section

noncomputable section

namespace Cert.Scales

open Idealize.ShloMosaic Cert.Pre_normal_scales

/-- The shape relations the precondition's operations take. -/
theorem facts : Facts where
  bcast_S_S3x640x14x4 := by decide
  reducesTo_S3x640x14x4_S_d0_1_2_3 := by decide
  h_S_ := by decide
  bcast_S_S3x640x2x4 := by decide
  reducesTo_S3x640x2x4_S_d0_1_2_3 := by decide
  bcast_S_S3x20x2x128 := by decide
  reducesTo_S3x20x2x128_S_d0_1_2_3 := by decide

/-- The result of the reduction over all axes has one index. -/
instance : Subsingleton S_.Idx := ⟨fun a b => funext fun i => i.elim0⟩

/-- One byte within the precondition's two bounds. -/
theorem word (s : BitVec 8) (h : IntOp.andi (IntOp.cmpi .uge s 1#8) (IntOp.cmpi .ule s 254#8) = 1#1) : Attn.Normal s := by
  revert h
  unfold Attn.Normal
  revert s
  decide +kernel

/-- The precondition at three arrays of bytes, read at every byte. -/
theorem read [Facts] (x0 : FVec Ideal S3x640x14x128 .fp8e4m3) (x1 : IVec S3x640x14x4 8) (x2 : FVec Ideal S3x640x2x128 .fp8e4m3)
    (x3 : IVec S3x640x2x4 8) (x4 : FVec Ideal S3x640x2x128 .fp8e4m3) (x5 : IVec S3x20x2x128 8) (x6 : IVec S3x640 32)
    (h : fn (F := Ideal) x0 x1 x2 x3 x4 x5 x6 = fun _ => 1#1) :
    (∀ i, Attn.Normal (x1 i)) ∧ (∀ i, Attn.Normal (x3 i)) ∧ ∀ i, Attn.Normal (x5 i) := by
  have e := congrFun h (fun i => i.elim0)
  unfold fn fn_part1 at e
  obtain ⟨e12, e3⟩ := IntOp.andi_eq_one.1 e
  obtain ⟨e1, e2⟩ := IntOp.andi_eq_one.1 e12
  exact ⟨fun i => word _ (Host.reduce_andi_all _ _ _ _ _ e1 i), fun i => word _ (Host.reduce_andi_all _ _ _ _ _ e2 i),
    fun i => word _ (Host.reduce_andi_all _ _ _ _ _ e3 i)⟩

end Cert.Scales
end
-- ==== Proof.Equation.lean ====
/- The kernel and the reference, from memories that agree on the arguments and hold normal scales, end with one result. -/
module

public import proofs.«01_k».proof.Defs
public import proofs.«01_k».proof.Proof.KernelArray
public import proofs.«01_k».proof.Proof.ReferenceArray
public import proofs.«01_k».proof.Proof.Scales
public import proofs.«01_k».proof.Proof.Gen.KernelIdeal.Value
public import proofs.«01_k».proof.Proof.Gen.ReferenceIdeal.Value

@[expose] public section

noncomputable section

namespace Cert.Equation

open Idealize.ShloMosaic Idealize.SL.Sem

/-- The constant that the kernel multiplies its scores by is the reciprocal of the natural logarithm of 2. -/
theorem factor_eq : KernelIdeal.Block.factor = (((Real.log 2)⁻¹ : ℝ) : EReal) :=
  IdealRules.named_const.ideal_named_scalar _ _ _ _ rfl

/-- The two result arrays are equal where the arguments are and the kernel's scales are normal. -/
theorem arrays (m : (ℓ : Loc KernelIdeal.nD KernelIdeal.τ KernelIdeal.sig) → Buf (Elt Ideal) ℓ)
    (m' : (ℓ : Loc ReferenceIdeal.nD ReferenceIdeal.τ ReferenceIdeal.sig) → Buf (Elt Ideal) ℓ) (c : Dev KernelIdeal.nD)
    (h0 : m' (c.tc.loc ReferenceIdeal.main_arg0) = m (c.tc.loc KernelIdeal.main_arg0))
    (h1 : m' (c.tc.loc ReferenceIdeal.main_arg1) = m (c.tc.loc KernelIdeal.main_arg1))
    (h2 : m' (c.tc.loc ReferenceIdeal.main_arg2) = m (c.tc.loc KernelIdeal.main_arg2))
    (h3 : m' (c.tc.loc ReferenceIdeal.main_arg3) = m (c.tc.loc KernelIdeal.main_arg3))
    (h4 : m' (c.tc.loc ReferenceIdeal.main_arg4) = m (c.tc.loc KernelIdeal.main_arg4))
    (h5 : m' (c.tc.loc ReferenceIdeal.main_arg5) = m (c.tc.loc KernelIdeal.main_arg5))
    (h6 : m' (c.tc.loc ReferenceIdeal.main_arg6) = m (c.tc.loc KernelIdeal.main_arg6))
    (hq : ∀ i, Attn.Normal ((m (c.tc.loc KernelIdeal.main_arg1) : Attn.QScales) i))
    (hk : ∀ i, Attn.Normal ((m (c.tc.loc KernelIdeal.main_arg3) : Attn.KScales) i))
    (hv : ∀ i, Attn.Normal ((m (c.tc.loc KernelIdeal.main_arg5) : Attn.VScales) i)) :
    (ReferenceIdeal.Gen.dats m' 0 c).arrAt 8 ReferenceIdeal.cfg0.N
      = (KernelIdeal.Gen.dats m 0 c).arrAt 8 KernelIdeal.cfg0.N := by
  rw [ReferenceIdeal.Array.array_eq, KernelIdeal.Array.array_eq, h0, h1, h2, h3, h4, h5, h6, factor_eq]
  exact (Attn.resultK_eq _ _ _ _ _ _ _ hq hk hv).symm

/-- The kernel and the reference end with equal results and keep their arguments. -/
theorem algebraic : Cert.algebraic_KernelIdeal_ReferenceIdeal_pre_normal_scales (hKernelIdeal := KernelIdeal.Gen.facts)
    (hReferenceIdeal := ReferenceIdeal.Gen.facts) (hPre_normal_scales := Scales.facts) := by
  intro m g m' g' hp ha
  refine ⟨fun c => (KernelIdeal.Gen.dats m 0 c).arrAt 8 KernelIdeal.cfg0.N, KernelIdeal.Value.run_blocks m g,
    (θ_run _ _ _).mono (fun r h c => ?_) (ReferenceIdeal.Value.run_blocks m' g')⟩
  obtain ⟨h0, h1, h2, h3, h4, h5, h6⟩ := ha c
  obtain ⟨hq, hk, hv⟩ := @Scales.read Scales.facts _ _ _ _ _ _ _ (hp c)
  exact ⟨(h c).1.trans (arrays m m' c h0 h1 h2 h3 h4 h5 h6 hq hk hv), (h c).2⟩

end Cert.Equation
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Value
public import proofs.«01_k».proof.Proof.Gen.KernelIdeal.Value
public import proofs.«01_k».proof.Proof.Equation
public import Idealize.ShloMosaic.Adequacy
public import Idealize.ShloMosaic.Init

@[expose] public section

noncomputable section

namespace Cert.Proof

open Idealize.ShloMosaic Idealize.SL.Sem Cert.Kernel

/-- Everything the certificate claims. -/
theorem claim : Cert.Claim :=
  ⟨Cert.Kernel.Gen.facts, Cert.KernelIdeal.Gen.facts, Cert.ReferenceIdeal.Gen.facts, Cert.Scales.facts,
    fun m ρ _ => Cert.Kernel.Gen.frame m ρ, fun m ρ _ => Cert.KernelIdeal.Gen.frame m ρ, fun m ρ _ => Cert.KernelIdeal.Gen.frame m ρ,
    fun m ρ _ => Cert.ReferenceIdeal.Gen.frame m ρ, fun m ρ _ => Cert.ReferenceIdeal.Gen.frame m ρ,
    IdealRules.named_const.statement Cert.KernelIdeal.κ "log2e" .f32 0x3FB8AA3B#32 (((Real.log 2)⁻¹ : ℝ) : EReal) rfl,
    Cert.Equation.algebraic⟩

end Cert.Proof

end
